-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x5632 : Shape := ⟨3, ![8, 2048, 5632]⟩
abbrev S16768x5632 : Shape := ⟨2, ![16768, 5632]⟩
abbrev S131x44 : Shape := ⟨2, ![131, 44]⟩
abbrev S_ : Shape := ⟨0, ![]⟩

class Facts : Prop where
  bitsLt_bf16_f32 : FTy.bits .bf16 < FTy.bits .f32
  bcast_S_S8x2048x5632 : S_.BroadcastsInDim S8x2048x5632 (![] : Fin 0 → Fin S8x2048x5632.rank)
  reducesTo_S8x2048x5632_S_d0_1_2 : S8x2048x5632.ReducesTo [0, 1, 2] S_
  h_S_ : 0 < S_.numel

variable [Facts]

def fn {F : FTy → Type} [FloatOps F] (main_arg0 : FVec F S8x2048x5632 .bf16) (main_arg1 : FVec F S16768x5632 .fp8e4m3) (main_arg2 : FVec F S131x44 .f32) : IVec S_ 1 :=
  let main_v0 : FVec F S8x2048x5632 .f32 := (extf .f32 · bitsLt_bf16_f32) main_arg0
  let main_v1 : FVec F S8x2048x5632 .f32 := Host.absf main_v0
  let main_cst : FVec F S_ .f32 := constant S_ .f32 0x7F7F0000#32
  let main_v2 : FVec F S8x2048x5632 .f32 := broadcastInDim S8x2048x5632 ![] bcast_S_S8x2048x5632 main_cst
  let main_v3 : IVec S8x2048x5632 1 := cmpf .ole main_v1 main_v2
  let main_c : IVec S_ 1 := constantI S_ 1 1#1
  let main_v4 : IVec S_ 1 := (fun x v => Host.reduce IntOp.andi x v reducesTo_S8x2048x5632_S_d0_1_2 h_S_) main_v3 main_c
  main_v4
-- ==== Kernel.lean ====
abbrev S8x2048x5632 : Shape := ⟨3, ![8, 2048, 5632]⟩
abbrev S16768x5632 : Shape := ⟨2, ![16768, 5632]⟩
abbrev S131x44 : Shape := ⟨2, ![131, 44]⟩
abbrev S16384x5632 : Shape := ⟨2, ![16384, 5632]⟩
abbrev S16384x8192 : Shape := ⟨2, ![16384, 8192]⟩
abbrev S16384x128 : Shape := ⟨2, ![16384, 128]⟩
abbrev S16384x44 : Shape := ⟨2, ![16384, 44]⟩
abbrev S512x5632 : Shape := ⟨2, ![512, 5632]⟩
abbrev S1024x5632 : Shape := ⟨2, ![1024, 5632]⟩
abbrev S512x1024 : Shape := ⟨2, ![512, 1024]⟩
abbrev S512x128 : Shape := ⟨2, ![512, 128]⟩
abbrev S512x44 : Shape := ⟨2, ![512, 44]⟩
abbrev S512 : Shape := ⟨1, ![512]⟩
abbrev S512x1 : Shape := ⟨2, ![512, 1]⟩
abbrev S512x256 : Shape := ⟨2, ![512, 256]⟩
abbrev S1x1 : Shape := ⟨2, ![1, 1]⟩
abbrev S1x128 : Shape := ⟨2, ![1, 128]⟩
abbrev S128x128 : Shape := ⟨2, ![128, 128]⟩
abbrev S384x5632 : Shape := ⟨2, ![384, 5632]⟩
abbrev S512x384 : Shape := ⟨2, ![512, 384]⟩
abbrev S8x2048x8192 : Shape := ⟨3, ![8, 2048, 8192]⟩
abbrev S8x2048x128 : Shape := ⟨3, ![8, 2048, 128]⟩
abbrev S8x2048x44 : Shape := ⟨3, ![8, 2048, 44]⟩

abbrev nBuf : Space → Nat
  | .hbm => 18
  | .vmem => 20
  | .smem => 1
  | _ => 0

abbrev bufTy : (tb : Table) → Fin (tcTables nBuf tb) → BufTy
  | .hbm, ⟨0, _⟩ => ⟨S8x2048x5632, .bf16⟩
  | .hbm, ⟨1, _⟩ => ⟨S16768x5632, .fp8e4m3⟩
  | .hbm, ⟨2, _⟩ => ⟨S131x44, .f32⟩
  | .hbm, ⟨3, _⟩ => ⟨S16384x5632, .bf16⟩
  | .hbm, ⟨4, _⟩ => ⟨S16384x8192, .bf16⟩
  | .hbm, ⟨5, _⟩ => ⟨S16384x8192, .bf16⟩
  | .hbm, ⟨6, _⟩ => ⟨S16384x128, .bf16⟩
  | .hbm, ⟨7, _⟩ => ⟨S16384x128, .bf16⟩
  | .hbm, ⟨8, _⟩ => ⟨S16384x128, .bf16⟩
  | .hbm, ⟨9, _⟩ => ⟨S16384x5632, .fp8e4m3⟩
  | .hbm, ⟨10, _⟩ => ⟨S16384x44, .f32⟩
  | .hbm, ⟨11, _⟩ => ⟨S8x2048x8192, .bf16⟩
  | .hbm, ⟨12, _⟩ => ⟨S8x2048x8192, .bf16⟩
  | .hbm, ⟨13, _⟩ => ⟨S8x2048x128, .bf16⟩
  | .hbm, ⟨14, _⟩ => ⟨S8x2048x128, .bf16⟩
  | .hbm, ⟨15, _⟩ => ⟨S8x2048x128, .bf16⟩
  | .hbm, ⟨16, _⟩ => ⟨S8x2048x5632, .fp8e4m3⟩
  | .hbm, ⟨17, _⟩ => ⟨S8x2048x44, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .fp8e4m3⟩
  | .local _ .vmem, ⟨3, _⟩ => ⟨S1024x5632, .fp8e4m3⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x5632, .fp8e4m3⟩
  | .local _ .vmem, ⟨15, _⟩ => ⟨S512x5632, .fp8e4m3⟩
  | .local _ .vmem, ⟨16, _⟩ => ⟨S512x44, .f32⟩
  | .local _ .vmem, ⟨17, _⟩ => ⟨S512x44, .f32⟩
  | .local _ .vmem, ⟨18, _⟩ => ⟨S512x5632, .bf16⟩
  | .local _ .vmem, ⟨19, _⟩ => ⟨S1024x5632, .bf16⟩
  | .local _ .smem, ⟨0, _⟩ => ⟨S131x44, .f32⟩
  | _, _ => ⟨S8x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 17], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_off1 (i : grid0.Coords) (c0_i32_7 : BitVec 32) : Fin 2 → Nat :=
  let arg1 : BitVec 32 := BitVec.ofNat 32 (i 1).val
  let c8_i32_6 : BitVec 32 := 8#32
  let v14 : BitVec 32 := Scalar.muli arg1 c8_i32_6
  let v15 : BitVec 32 := Scalar.addi v14 c0_i32_7
  let v16 : Index := Scalar.indexCast v15
  let c0 : Index := 0#32
  ![v16.toNat, 0]
def k0_off2 (i : grid0.Coords) (c0_i32_13 : BitVec 32) : Fin 2 → Nat :=
  let arg1 : BitVec 32 := BitVec.ofNat 32 (i 1).val
  let c8_i32_12 : BitVec 32 := 8#32
  let v27 : BitVec 32 := Scalar.muli arg1 c8_i32_12
  let v28 : BitVec 32 := Scalar.addi v27 c0_i32_13
  let v29 : Index := Scalar.indexCast v28
  let c1 : Index := 1#32
  ![v29.toNat, 1]
def k0_off3 (i : grid0.Coords) (c0_i32_18 : BitVec 32) : Fin 2 → Nat :=
  let arg1 : BitVec 32 := BitVec.ofNat 32 (i 1).val
  let c8_i32_17 : BitVec 32 := 8#32
  let v40 : BitVec 32 := Scalar.muli arg1 c8_i32_17
  let v41 : BitVec 32 := Scalar.addi v40 c0_i32_18
  let v42 : Index := Scalar.indexCast v41
  let c2 : Index := 2#32
  ![v42.toNat, 2]
def k0_off4 (i : grid0.Coords) (c0_i32_23 : BitVec 32) : Fin 2 → Nat :=
  let arg1 : BitVec 32 := BitVec.ofNat 32 (i 1).val
  let c8_i32_22 : BitVec 32 := 8#32
  let v53 : BitVec 32 := Scalar.muli arg1 c8_i32_22
  let v54 : BitVec 32 := Scalar.addi v53 c0_i32_23
  let v55 : Index := Scalar.indexCast v54
  let c3 : Index := 3#32
  ![v55.toNat, 3]
def k0_off5 (i : grid0.Coords) (c0_i32_28 : BitVec 32) : Fin 2 → Nat :=
  let arg1 : BitVec 32 := BitVec.ofNat 32 (i 1).val
  let c8_i32_27 : BitVec 32 := 8#32
  let v66 : BitVec 32 := Scalar.muli arg1 c8_i32_27
  let v67 : BitVec 32 := Scalar.addi v66 c0_i32_28
  let v68 : Index := Scalar.indexCast v67
  let c4 : Index := 4#32
  ![v68.toNat, 4]
def k0_off6 (i : grid0.Coords) (c0_i32_33 : BitVec 32) : Fin 2 → Nat :=
  let arg1 : BitVec 32 := BitVec.ofNat 32 (i 1).val
  let c8_i32_32 : BitVec 32 := 8#32
  let v79 : BitVec 32 := Scalar.muli arg1 c8_i32_32
  let v80 : BitVec 32 := Scalar.addi v79 c0_i32_33
  let v81 : Index := Scalar.indexCast v80
  let c5 : Index := 5#32
  ![v81.toNat, 5]
def k0_off7 (i : grid0.Coords) (c0_i32_38 : BitVec 32) : Fin 2 → Nat :=
  let arg1 : BitVec 32 := BitVec.ofNat 32 (i 1).val
  let c8_i32_37 : BitVec 32 := 8#32
  let v92 : BitVec 32 := Scalar.muli arg1 c8_i32_37
  let v93 : BitVec 32 := Scalar.addi v92 c0_i32_38
  let v94 : Index := Scalar.indexCast v93
  let c6 : Index := 6#32
  ![v94.toNat, 6]
def k0_off8 (i : grid0.Coords) (c0_i32_43 : BitVec 32) : Fin 2 → Nat :=
  let arg1 : BitVec 32 := BitVec.ofNat 32 (i 1).val
  let c8_i32_42 : BitVec 32 := 8#32
  let v105 : BitVec 32 := Scalar.muli arg1 c8_i32_42
  let v106 : BitVec 32 := Scalar.addi v105 c0_i32_43
  let v107 : Index := Scalar.indexCast v106
  let c7 : Index := 7#32
  ![v107.toNat, 7]
def k0_off9 (i : grid0.Coords) (c0_i32_48 : BitVec 32) : Fin 2 → Nat :=
  let arg1 : BitVec 32 := BitVec.ofNat 32 (i 1).val
  let c8_i32_47 : BitVec 32 := 8#32
  let v118 : BitVec 32 := Scalar.muli arg1 c8_i32_47
  let v119 : BitVec 32 := Scalar.addi v118 c0_i32_48
  let v120 : Index := Scalar.indexCast v119
  let c8 : Index := 8#32
  ![v120.toNat, 8]
def k0_off10 (i : grid0.Coords) (c0_i32_53 : BitVec 32) : Fin 2 → Nat :=
  let arg1 : BitVec 32 := BitVec.ofNat 32 (i 1).val
  let c8_i32_52 : BitVec 32 := 8#32
  let v131 : BitVec 32 := Scalar.muli arg1 c8_i32_52
  let v132 : BitVec 32 := Scalar.addi v131 c0_i32_53
  let v133 : Index := Scalar.indexCast v132
  let c9 : Index := 9#32
  ![v133.toNat, 9]
def k0_off11 (i : grid0.Coords) (c0_i32_58 : BitVec 32) : Fin 2 → Nat :=
  let arg1 : BitVec 32 := BitVec.ofNat 32 (i 1).val
  let c8_i32_57 : BitVec 32 := 8#32
  let v144 : BitVec 32 := Scalar.muli arg1 c8_i32_57
  let v145 : BitVec 32 := Scalar.addi v144 c0_i32_58
  let v146 : Index := Scalar.indexCast v145
  let c10 : Index := 10#32
  ![v146.toNat, 10]
def k0_off12 (i : grid0.Coords) (c0_i32_63 : BitVec 32) : Fin 2 → Nat :=
  let arg1 : BitVec 32 := BitVec.ofNat 32 (i 1).val
  let c8_i32_62 : BitVec 32 := 8#32
  let v157 : BitVec 32 := Scalar.muli arg1 c8_i32_62
  let v158 : BitVec 32 := Scalar.addi v157 c0_i32_63
  let v159 : Index := Scalar.indexCast v158
  let c11 : Index := 11#32
  ![v159.toNat, 11]
def k0_off13 (i : grid0.Coords) (c0_i32_68 : BitVec 32) : Fin 2 → Nat :=
  let arg1 : BitVec 32 := BitVec.ofNat 32 (i 1).val
  let c8_i32_67 : BitVec 32 := 8#32
  let v170 : BitVec 32 := Scalar.muli arg1 c8_i32_67
  let v171 : BitVec 32 := Scalar.addi v170 c0_i32_68
  let v172 : Index := Scalar.indexCast v171
  let c12 : Index := 12#32
  ![v172.toNat, 12]
def k0_off14 (i : grid0.Coords) (c0_i32_73 : BitVec 32) : Fin 2 → Nat :=
  let arg1 : BitVec 32 := BitVec.ofNat 32 (i 1).val
  let c8_i32_72 : BitVec 32 := 8#32
  let v183 : BitVec 32 := Scalar.muli arg1 c8_i32_72
  let v184 : BitVec 32 := Scalar.addi v183 c0_i32_73
  let v185 : Index := Scalar.indexCast v184
  let c13 : Index := 13#32
  ![v185.toNat, 13]
def k0_off15 (i : grid0.Coords) (c0_i32_78 : BitVec 32) : Fin 2 → Nat :=
  let arg1 : BitVec 32 := BitVec.ofNat 32 (i 1).val
  let c8_i32_77 : BitVec 32 := 8#32
  let v196 : BitVec 32 := Scalar.muli arg1 c8_i32_77
  let v197 : BitVec 32 := Scalar.addi v196 c0_i32_78
  let v198 : Index := Scalar.indexCast v197
  let c14 : Index := 14#32
  ![v198.toNat, 14]
def k0_off16 (i : grid0.Coords) (c0_i32_83 : BitVec 32) : Fin 2 → Nat :=
  let arg1 : BitVec 32 := BitVec.ofNat 32 (i 1).val
  let c8_i32_82 : BitVec 32 := 8#32
  let v209 : BitVec 32 := Scalar.muli arg1 c8_i32_82
  let v210 : BitVec 32 := Scalar.addi v209 c0_i32_83
  let v211 : Index := Scalar.indexCast v210
  let c15 : Index := 15#32
  ![v211.toNat, 15]
def k0_off17 (i : grid0.Coords) (c0_i32_88 : BitVec 32) : Fin 2 → Nat :=
  let arg1 : BitVec 32 := BitVec.ofNat 32 (i 1).val
  let c8_i32_87 : BitVec 32 := 8#32
  let v222 : BitVec 32 := Scalar.muli arg1 c8_i32_87
  let v223 : BitVec 32 := Scalar.addi v222 c0_i32_88
  let v224 : Index := Scalar.indexCast v223
  let c16 : Index := 16#32
  ![v224.toNat, 16]
def k0_off18 (i : grid0.Coords) (c0_i32_93 : BitVec 32) : Fin 2 → Nat :=
  let arg1 : BitVec 32 := BitVec.ofNat 32 (i 1).val
  let c8_i32_92 : BitVec 32 := 8#32
  let v235 : BitVec 32 := Scalar.muli arg1 c8_i32_92
  let v236 : BitVec 32 := Scalar.addi v235 c0_i32_93
  let v237 : Index := Scalar.indexCast v236
  let c17 : Index := 17#32
  ![v237.toNat, 17]
def k0_off19 (i : grid0.Coords) (c0_i32_98 : BitVec 32) : Fin 2 → Nat :=
  let arg1 : BitVec 32 := BitVec.ofNat 32 (i 1).val
  let c8_i32_97 : BitVec 32 := 8#32
  let v248 : BitVec 32 := Scalar.muli arg1 c8_i32_97
  let v249 : BitVec 32 := Scalar.addi v248 c0_i32_98
  let v250 : Index := Scalar.indexCast v249
  let c18 : Index := 18#32
  ![v250.toNat, 18]
def k0_off20 (i : grid0.Coords) (c0_i32_103 : BitVec 32) : Fin 2 → Nat :=
  let arg1 : BitVec 32 := BitVec.ofNat 32 (i 1).val
  let c8_i32_102 : BitVec 32 := 8#32
  let v261 : BitVec 32 := Scalar.muli arg1 c8_i32_102
  let v262 : BitVec 32 := Scalar.addi v261 c0_i32_103
  let v263 : Index := Scalar.indexCast v262
  let c19 : Index := 19#32
  ![v263.toNat, 19]
def k0_off21 (i : grid0.Coords) (c0_i32_108 : BitVec 32) : Fin 2 → Nat :=
  let arg1 : BitVec 32 := BitVec.ofNat 32 (i 1).val
  let c8_i32_107 : BitVec 32 := 8#32
  let v274 : BitVec 32 := Scalar.muli arg1 c8_i32_107
  let v275 : BitVec 32 := Scalar.addi v274 c0_i32_108
  let v276 : Index := Scalar.indexCast v275
  let c20 : Index := 20#32
  ![v276.toNat, 20]
def k0_off22 (i : grid0.Coords) (c0_i32_113 : BitVec 32) : Fin 2 → Nat :=
  let arg1 : BitVec 32 := BitVec.ofNat 32 (i 1).val
  let c8_i32_112 : BitVec 32 := 8#32
  let v287 : BitVec 32 := Scalar.muli arg1 c8_i32_112
  let v288 : BitVec 32 := Scalar.addi v287 c0_i32_113
  let v289 : Index := Scalar.indexCast v288
  let c21 : Index := 21#32
  ![v289.toNat, 21]
def k0_off23 (i : grid0.Coords) (c0_i32_118 : BitVec 32) : Fin 2 → Nat :=
  let arg1 : BitVec 32 := BitVec.ofNat 32 (i 1).val
  let c8_i32_117 : BitVec 32 := 8#32
  let v300 : BitVec 32 := Scalar.muli arg1 c8_i32_117
  let v301 : BitVec 32 := Scalar.addi v300 c0_i32_118
  let v302 : Index := Scalar.indexCast v301
  let c22 : Index := 22#32
  ![v302.toNat, 22]
def k0_off24 (i : grid0.Coords) (c0_i32_123 : BitVec 32) : Fin 2 → Nat :=
  let arg1 : BitVec 32 := BitVec.ofNat 32 (i 1).val
  let c8_i32_122 : BitVec 32 := 8#32
  let v313 : BitVec 32 := Scalar.muli arg1 c8_i32_122
  let v314 : BitVec 32 := Scalar.addi v313 c0_i32_123
  let v315 : Index := Scalar.indexCast v314
  let c23 : Index := 23#32
  ![v315.toNat, 23]
def k0_off25 (i : grid0.Coords) (c0_i32_128 : BitVec 32) : Fin 2 → Nat :=
  let arg1 : BitVec 32 := BitVec.ofNat 32 (i 1).val
  let c8_i32_127 : BitVec 32 := 8#32
  let v326 : BitVec 32 := Scalar.muli arg1 c8_i32_127
  let v327 : BitVec 32 := Scalar.addi v326 c0_i32_128
  let v328 : Index := Scalar.indexCast v327
  let c24 : Index := 24#32
  ![v328.toNat, 24]
def k0_off26 (i : grid0.Coords) (c0_i32_133 : BitVec 32) : Fin 2 → Nat :=
  let arg1 : BitVec 32 := BitVec.ofNat 32 (i 1).val
  let c8_i32_132 : BitVec 32 := 8#32
  let v339 : BitVec 32 := Scalar.muli arg1 c8_i32_132
  let v340 : BitVec 32 := Scalar.addi v339 c0_i32_133
  let v341 : Index := Scalar.indexCast v340
  let c25 : Index := 25#32
  ![v341.toNat, 25]
def k0_off27 (i : grid0.Coords) (c0_i32_138 : BitVec 32) : Fin 2 → Nat :=
  let arg1 : BitVec 32 := BitVec.ofNat 32 (i 1).val
  let c8_i32_137 : BitVec 32 := 8#32
  let v352 : BitVec 32 := Scalar.muli arg1 c8_i32_137
  let v353 : BitVec 32 := Scalar.addi v352 c0_i32_138
  let v354 : Index := Scalar.indexCast v353
  let c26 : Index := 26#32
  ![v354.toNat, 26]
def k0_off28 (i : grid0.Coords) (c0_i32_143 : BitVec 32) : Fin 2 → Nat :=
  let arg1 : BitVec 32 := BitVec.ofNat 32 (i 1).val
  let c8_i32_142 : BitVec 32 := 8#32
  let v365 : BitVec 32 := Scalar.muli arg1 c8_i32_142
  let v366 : BitVec 32 := Scalar.addi v365 c0_i32_143
  let v367 : Index := Scalar.indexCast v366
  let c27 : Index := 27#32
  ![v367.toNat, 27]
def k0_off29 (i : grid0.Coords) (c0_i32_148 : BitVec 32) : Fin 2 → Nat :=
  let arg1 : BitVec 32 := BitVec.ofNat 32 (i 1).val
  let c8_i32_147 : BitVec 32 := 8#32
  let v378 : BitVec 32 := Scalar.muli arg1 c8_i32_147
  let v379 : BitVec 32 := Scalar.addi v378 c0_i32_148
  let v380 : Index := Scalar.indexCast v379
  let c28 : Index := 28#32
  ![v380.toNat, 28]
def k0_off30 (i : grid0.Coords) (c0_i32_153 : BitVec 32) : Fin 2 → Nat :=
  let arg1 : BitVec 32 := BitVec.ofNat 32 (i 1).val
  let c8_i32_152 : BitVec 32 := 8#32
  let v391 : BitVec 32 := Scalar.muli arg1 c8_i32_152
  let v392 : BitVec 32 := Scalar.addi v391 c0_i32_153
  let v393 : Index := Scalar.indexCast v392
  let c29 : Index := 29#32
  ![v393.toNat, 29]
def k0_off31 (i : grid0.Coords) (c0_i32_158 : BitVec 32) : Fin 2 → Nat :=
  let arg1 : BitVec 32 := BitVec.ofNat 32 (i 1).val
  let c8_i32_157 : BitVec 32 := 8#32
  let v404 : BitVec 32 := Scalar.muli arg1 c8_i32_157
  let v405 : BitVec 32 := Scalar.addi v404 c0_i32_158
  let v406 : Index := Scalar.indexCast v405
  let c30 : Index := 30#32
  ![v406.toNat, 30]
def k0_off32 (i : grid0.Coords) (c0_i32_163 : BitVec 32) : Fin 2 → Nat :=
  let arg1 : BitVec 32 := BitVec.ofNat 32 (i 1).val
  let c8_i32_162 : BitVec 32 := 8#32
  let v417 : BitVec 32 := Scalar.muli arg1 c8_i32_162
  let v418 : BitVec 32 := Scalar.addi v417 c0_i32_163
  let v419 : Index := Scalar.indexCast v418
  let c31 : Index := 31#32
  ![v419.toNat, 31]
def k0_off33 (i : grid0.Coords) (c0_i32_168 : BitVec 32) : Fin 2 → Nat :=
  let arg1 : BitVec 32 := BitVec.ofNat 32 (i 1).val
  let c8_i32_167 : BitVec 32 := 8#32
  let v430 : BitVec 32 := Scalar.muli arg1 c8_i32_167
  let v431 : BitVec 32 := Scalar.addi v430 c0_i32_168
  let v432 : Index := Scalar.indexCast v431
  let c32 : Index := 32#32
  ![v432.toNat, 32]
def k0_off34 (i : grid0.Coords) (c0_i32_173 : BitVec 32) : Fin 2 → Nat :=
  let arg1 : BitVec 32 := BitVec.ofNat 32 (i 1).val
  let c8_i32_172 : BitVec 32 := 8#32
  let v443 : BitVec 32 := Scalar.muli arg1 c8_i32_172
  let v444 : BitVec 32 := Scalar.addi v443 c0_i32_173
  let v445 : Index := Scalar.indexCast v444
  let c33 : Index := 33#32
  ![v445.toNat, 33]
def k0_off35 (i : grid0.Coords) (c0_i32_178 : BitVec 32) : Fin 2 → Nat :=
  let arg1 : BitVec 32 := BitVec.ofNat 32 (i 1).val
  let c8_i32_177 : BitVec 32 := 8#32
  let v456 : BitVec 32 := Scalar.muli arg1 c8_i32_177
  let v457 : BitVec 32 := Scalar.addi v456 c0_i32_178
  let v458 : Index := Scalar.indexCast v457
  let c34 : Index := 34#32
  ![v458.toNat, 34]
def k0_off36 (i : grid0.Coords) (c0_i32_183 : BitVec 32) : Fin 2 → Nat :=
  let arg1 : BitVec 32 := BitVec.ofNat 32 (i 1).val
  let c8_i32_182 : BitVec 32 := 8#32
  let v469 : BitVec 32 := Scalar.muli arg1 c8_i32_182
  let v470 : BitVec 32 := Scalar.addi v469 c0_i32_183
  let v471 : Index := Scalar.indexCast v470
  let c35 : Index := 35#32
  ![v471.toNat, 35]
def k0_off37 (i : grid0.Coords) (c0_i32_188 : BitVec 32) : Fin 2 → Nat :=
  let arg1 : BitVec 32 := BitVec.ofNat 32 (i 1).val
  let c8_i32_187 : BitVec 32 := 8#32
  let v482 : BitVec 32 := Scalar.muli arg1 c8_i32_187
  let v483 : BitVec 32 := Scalar.addi v482 c0_i32_188
  let v484 : Index := Scalar.indexCast v483
  let c36 : Index := 36#32
  ![v484.toNat, 36]
def k0_off38 (i : grid0.Coords) (c0_i32_193 : BitVec 32) : Fin 2 → Nat :=
  let arg1 : BitVec 32 := BitVec.ofNat 32 (i 1).val
  let c8_i32_192 : BitVec 32 := 8#32
  let v495 : BitVec 32 := Scalar.muli arg1 c8_i32_192
  let v496 : BitVec 32 := Scalar.addi v495 c0_i32_193
  let v497 : Index := Scalar.indexCast v496
  let c37 : Index := 37#32
  ![v497.toNat, 37]
def k0_off39 (i : grid0.Coords) (c0_i32_198 : BitVec 32) : Fin 2 → Nat :=
  let arg1 : BitVec 32 := BitVec.ofNat 32 (i 1).val
  let c8_i32_197 : BitVec 32 := 8#32
  let v508 : BitVec 32 := Scalar.muli arg1 c8_i32_197
  let v509 : BitVec 32 := Scalar.addi v508 c0_i32_198
  let v510 : Index := Scalar.indexCast v509
  let c38 : Index := 38#32
  ![v510.toNat, 38]
def k0_off40 (i : grid0.Coords) (c0_i32_203 : BitVec 32) : Fin 2 → Nat :=
  let arg1 : BitVec 32 := BitVec.ofNat 32 (i 1).val
  let c8_i32_202 : BitVec 32 := 8#32
  let v521 : BitVec 32 := Scalar.muli arg1 c8_i32_202
  let v522 : BitVec 32 := Scalar.addi v521 c0_i32_203
  let v523 : Index := Scalar.indexCast v522
  let c39 : Index := 39#32
  ![v523.toNat, 39]
def k0_off41 (i : grid0.Coords) (c0_i32_208 : BitVec 32) : Fin 2 → Nat :=
  let arg1 : BitVec 32 := BitVec.ofNat 32 (i 1).val
  let c8_i32_207 : BitVec 32 := 8#32
  let v534 : BitVec 32 := Scalar.muli arg1 c8_i32_207
  let v535 : BitVec 32 := Scalar.addi v534 c0_i32_208
  let v536 : Index := Scalar.indexCast v535
  let c40 : Index := 40#32
  ![v536.toNat, 40]
def k0_off42 (i : grid0.Coords) (c0_i32_213 : BitVec 32) : Fin 2 → Nat :=
  let arg1 : BitVec 32 := BitVec.ofNat 32 (i 1).val
  let c8_i32_212 : BitVec 32 := 8#32
  let v547 : BitVec 32 := Scalar.muli arg1 c8_i32_212
  let v548 : BitVec 32 := Scalar.addi v547 c0_i32_213
  let v549 : Index := Scalar.indexCast v548
  let c41 : Index := 41#32
  ![v549.toNat, 41]
def k0_off43 (i : grid0.Coords) (c0_i32_218 : BitVec 32) : Fin 2 → Nat :=
  let arg1 : BitVec 32 := BitVec.ofNat 32 (i 1).val
  let c8_i32_217 : BitVec 32 := 8#32
  let v560 : BitVec 32 := Scalar.muli arg1 c8_i32_217
  let v561 : BitVec 32 := Scalar.addi v560 c0_i32_218
  let v562 : Index := Scalar.indexCast v561
  let c42 : Index := 42#32
  ![v562.toNat, 42]
def k0_off44 (i : grid0.Coords) (c0_i32_223 : BitVec 32) : Fin 2 → Nat :=
  let arg1 : BitVec 32 := BitVec.ofNat 32 (i 1).val
  let c8_i32_222 : BitVec 32 := 8#32
  let v573 : BitVec 32 := Scalar.muli arg1 c8_i32_222
  let v574 : BitVec 32 := Scalar.addi v573 c0_i32_223
  let v575 : Index := Scalar.indexCast v574
  let c43 : Index := 43#32
  ![v575.toNat, 43]
def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let c16_i32 : BitVec 32 := 16#32
  let v7 : BitVec 1 := Scalar.cmpi .slt arg1 c16_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off45 (i : grid0.Coords) (c0_i32_7 : BitVec 32) : Fin 2 → Nat :=
  let arg1 : BitVec 32 := BitVec.ofNat 32 (i 1).val
  let c8_i32_6 : BitVec 32 := 8#32
  let v14 : BitVec 32 := Scalar.muli arg1 c8_i32_6
  let v15 : BitVec 32 := Scalar.addi v14 c0_i32_7
  let v16 : Index := Scalar.indexCast v15
  let c0 : Index := 0#32
  ![v16.toNat, 0]
def k0_off46 (i : grid0.Coords) (c0_i32_13 : BitVec 32) : Fin 2 → Nat :=
  let arg1 : BitVec 32 := BitVec.ofNat 32 (i 1).val
  let c8_i32_12 : BitVec 32 := 8#32
  let v27 : BitVec 32 := Scalar.muli arg1 c8_i32_12
  let v28 : BitVec 32 := Scalar.addi v27 c0_i32_13
  let v29 : Index := Scalar.indexCast v28
  let c1 : Index := 1#32
  ![v29.toNat, 1]
def k0_off47 (i : grid0.Coords) (c0_i32_18 : BitVec 32) : Fin 2 → Nat :=
  let arg1 : BitVec 32 := BitVec.ofNat 32 (i 1).val
  let c8_i32_17 : BitVec 32 := 8#32
  let v40 : BitVec 32 := Scalar.muli arg1 c8_i32_17
  let v41 : BitVec 32 := Scalar.addi v40 c0_i32_18
  let v42 : Index := Scalar.indexCast v41
  let c2 : Index := 2#32
  ![v42.toNat, 2]
def k0_off48 (i : grid0.Coords) (c0_i32_23 : BitVec 32) : Fin 2 → Nat :=
  let arg1 : BitVec 32 := BitVec.ofNat 32 (i 1).val
  let c8_i32_22 : BitVec 32 := 8#32
  let v53 : BitVec 32 := Scalar.muli arg1 c8_i32_22
  let v54 : BitVec 32 := Scalar.addi v53 c0_i32_23
  let v55 : Index := Scalar.indexCast v54
  let c3 : Index := 3#32
  ![v55.toNat, 3]
def k0_off49 (i : grid0.Coords) (c0_i32_28 : BitVec 32) : Fin 2 → Nat :=
  let arg1 : BitVec 32 := BitVec.ofNat 32 (i 1).val
  let c8_i32_27 : BitVec 32 := 8#32
  let v66 : BitVec 32 := Scalar.muli arg1 c8_i32_27
  let v67 : BitVec 32 := Scalar.addi v66 c0_i32_28
  let v68 : Index := Scalar.indexCast v67
  let c4 : Index := 4#32
  ![v68.toNat, 4]
def k0_off50 (i : grid0.Coords) (c0_i32_33 : BitVec 32) : Fin 2 → Nat :=
  let arg1 : BitVec 32 := BitVec.ofNat 32 (i 1).val
  let c8_i32_32 : BitVec 32 := 8#32
  let v79 : BitVec 32 := Scalar.muli arg1 c8_i32_32
  let v80 : BitVec 32 := Scalar.addi v79 c0_i32_33
  let v81 : Index := Scalar.indexCast v80
  let c5 : Index := 5#32
  ![v81.toNat, 5]
def k0_off51 (i : grid0.Coords) (c0_i32_38 : BitVec 32) : Fin 2 → Nat :=
  let arg1 : BitVec 32 := BitVec.ofNat 32 (i 1).val
  let c8_i32_37 : BitVec 32 := 8#32
  let v92 : BitVec 32 := Scalar.muli arg1 c8_i32_37
  let v93 : BitVec 32 := Scalar.addi v92 c0_i32_38
  let v94 : Index := Scalar.indexCast v93
  let c6 : Index := 6#32
  ![v94.toNat, 6]
def k0_off52 (i : grid0.Coords) (c0_i32_43 : BitVec 32) : Fin 2 → Nat :=
  let arg1 : BitVec 32 := BitVec.ofNat 32 (i 1).val
  let c8_i32_42 : BitVec 32 := 8#32
  let v105 : BitVec 32 := Scalar.muli arg1 c8_i32_42
  let v106 : BitVec 32 := Scalar.addi v105 c0_i32_43
  let v107 : Index := Scalar.indexCast v106
  let c7 : Index := 7#32
  ![v107.toNat, 7]
def k0_off53 (i : grid0.Coords) (c0_i32_48 : BitVec 32) : Fin 2 → Nat :=
  let arg1 : BitVec 32 := BitVec.ofNat 32 (i 1).val
  let c8_i32_47 : BitVec 32 := 8#32
  let v118 : BitVec 32 := Scalar.muli arg1 c8_i32_47
  let v119 : BitVec 32 := Scalar.addi v118 c0_i32_48
  let v120 : Index := Scalar.indexCast v119
  let c8 : Index := 8#32
  ![v120.toNat, 8]
def k0_off54 (i : grid0.Coords) (c0_i32_53 : BitVec 32) : Fin 2 → Nat :=
  let arg1 : BitVec 32 := BitVec.ofNat 32 (i 1).val
  let c8_i32_52 : BitVec 32 := 8#32
  let v131 : BitVec 32 := Scalar.muli arg1 c8_i32_52
  let v132 : BitVec 32 := Scalar.addi v131 c0_i32_53
  let v133 : Index := Scalar.indexCast v132
  let c9 : Index := 9#32
  ![v133.toNat, 9]
def k0_off55 (i : grid0.Coords) (c0_i32_58 : BitVec 32) : Fin 2 → Nat :=
  let arg1 : BitVec 32 := BitVec.ofNat 32 (i 1).val
  let c8_i32_57 : BitVec 32 := 8#32
  let v144 : BitVec 32 := Scalar.muli arg1 c8_i32_57
  let v145 : BitVec 32 := Scalar.addi v144 c0_i32_58
  let v146 : Index := Scalar.indexCast v145
  let c10 : Index := 10#32
  ![v146.toNat, 10]
def k0_off56 (i : grid0.Coords) (c0_i32_63 : BitVec 32) : Fin 2 → Nat :=
  let arg1 : BitVec 32 := BitVec.ofNat 32 (i 1).val
  let c8_i32_62 : BitVec 32 := 8#32
  let v157 : BitVec 32 := Scalar.muli arg1 c8_i32_62
  let v158 : BitVec 32 := Scalar.addi v157 c0_i32_63
  let v159 : Index := Scalar.indexCast v158
  let c11 : Index := 11#32
  ![v159.toNat, 11]
def k0_off57 (i : grid0.Coords) (c0_i32_68 : BitVec 32) : Fin 2 → Nat :=
  let arg1 : BitVec 32 := BitVec.ofNat 32 (i 1).val
  let c8_i32_67 : BitVec 32 := 8#32
  let v170 : BitVec 32 := Scalar.muli arg1 c8_i32_67
  let v171 : BitVec 32 := Scalar.addi v170 c0_i32_68
  let v172 : Index := Scalar.indexCast v171
  let c12 : Index := 12#32
  ![v172.toNat, 12]
def k0_off58 (i : grid0.Coords) (c0_i32_73 : BitVec 32) : Fin 2 → Nat :=
  let arg1 : BitVec 32 := BitVec.ofNat 32 (i 1).val
  let c8_i32_72 : BitVec 32 := 8#32
  let v183 : BitVec 32 := Scalar.muli arg1 c8_i32_72
  let v184 : BitVec 32 := Scalar.addi v183 c0_i32_73
  let v185 : Index := Scalar.indexCast v184
  let c13 : Index := 13#32
  ![v185.toNat, 13]
def k0_off59 (i : grid0.Coords) (c0_i32_78 : BitVec 32) : Fin 2 → Nat :=
  let arg1 : BitVec 32 := BitVec.ofNat 32 (i 1).val
  let c8_i32_77 : BitVec 32 := 8#32
  let v196 : BitVec 32 := Scalar.muli arg1 c8_i32_77
  let v197 : BitVec 32 := Scalar.addi v196 c0_i32_78
  let v198 : Index := Scalar.indexCast v197
  let c14 : Index := 14#32
  ![v198.toNat, 14]
def k0_off60 (i : grid0.Coords) (c0_i32_83 : BitVec 32) : Fin 2 → Nat :=
  let arg1 : BitVec 32 := BitVec.ofNat 32 (i 1).val
  let c8_i32_82 : BitVec 32 := 8#32
  let v209 : BitVec 32 := Scalar.muli arg1 c8_i32_82
  let v210 : BitVec 32 := Scalar.addi v209 c0_i32_83
  let v211 : Index := Scalar.indexCast v210
  let c15 : Index := 15#32
  ![v211.toNat, 15]
def k0_off61 (i : grid0.Coords) (c0_i32_88 : BitVec 32) : Fin 2 → Nat :=
  let arg1 : BitVec 32 := BitVec.ofNat 32 (i 1).val
  let c8_i32_87 : BitVec 32 := 8#32
  let v222 : BitVec 32 := Scalar.muli arg1 c8_i32_87
  let v223 : BitVec 32 := Scalar.addi v222 c0_i32_88
  let v224 : Index := Scalar.indexCast v223
  let c16 : Index := 16#32
  ![v224.toNat, 16]
def k0_off62 (i : grid0.Coords) (c0_i32_93 : BitVec 32) : Fin 2 → Nat :=
  let arg1 : BitVec 32 := BitVec.ofNat 32 (i 1).val
  let c8_i32_92 : BitVec 32 := 8#32
  let v235 : BitVec 32 := Scalar.muli arg1 c8_i32_92
  let v236 : BitVec 32 := Scalar.addi v235 c0_i32_93
  let v237 : Index := Scalar.indexCast v236
  let c17 : Index := 17#32
  ![v237.toNat, 17]
def k0_off63 (i : grid0.Coords) (c0_i32_98 : BitVec 32) : Fin 2 → Nat :=
  let arg1 : BitVec 32 := BitVec.ofNat 32 (i 1).val
  let c8_i32_97 : BitVec 32 := 8#32
  let v248 : BitVec 32 := Scalar.muli arg1 c8_i32_97
  let v249 : BitVec 32 := Scalar.addi v248 c0_i32_98
  let v250 : Index := Scalar.indexCast v249
  let c18 : Index := 18#32
  ![v250.toNat, 18]
def k0_off64 (i : grid0.Coords) (c0_i32_103 : BitVec 32) : Fin 2 → Nat :=
  let arg1 : BitVec 32 := BitVec.ofNat 32 (i 1).val
  let c8_i32_102 : BitVec 32 := 8#32
  let v261 : BitVec 32 := Scalar.muli arg1 c8_i32_102
  let v262 : BitVec 32 := Scalar.addi v261 c0_i32_103
  let v263 : Index := Scalar.indexCast v262
  let c19 : Index := 19#32
  ![v263.toNat, 19]
def k0_off65 (i : grid0.Coords) (c0_i32_108 : BitVec 32) : Fin 2 → Nat :=
  let arg1 : BitVec 32 := BitVec.ofNat 32 (i 1).val
  let c8_i32_107 : BitVec 32 := 8#32
  let v274 : BitVec 32 := Scalar.muli arg1 c8_i32_107
  let v275 : BitVec 32 := Scalar.addi v274 c0_i32_108
  let v276 : Index := Scalar.indexCast v275
  let c20 : Index := 20#32
  ![v276.toNat, 20]
def k0_off66 (i : grid0.Coords) (c0_i32_113 : BitVec 32) : Fin 2 → Nat :=
  let arg1 : BitVec 32 := BitVec.ofNat 32 (i 1).val
  let c8_i32_112 : BitVec 32 := 8#32
  let v287 : BitVec 32 := Scalar.muli arg1 c8_i32_112
  let v288 : BitVec 32 := Scalar.addi v287 c0_i32_113
  let v289 : Index := Scalar.indexCast v288
  let c21 : Index := 21#32
  ![v289.toNat, 21]
def k0_off67 (i : grid0.Coords) (c0_i32_118 : BitVec 32) : Fin 2 → Nat :=
  let arg1 : BitVec 32 := BitVec.ofNat 32 (i 1).val
  let c8_i32_117 : BitVec 32 := 8#32
  let v300 : BitVec 32 := Scalar.muli arg1 c8_i32_117
  let v301 : BitVec 32 := Scalar.addi v300 c0_i32_118
  let v302 : Index := Scalar.indexCast v301
  let c22 : Index := 22#32
  ![v302.toNat, 22]
def k0_off68 (i : grid0.Coords) (c0_i32_123 : BitVec 32) : Fin 2 → Nat :=
  let arg1 : BitVec 32 := BitVec.ofNat 32 (i 1).val
  let c8_i32_122 : BitVec 32 := 8#32
  let v313 : BitVec 32 := Scalar.muli arg1 c8_i32_122
  let v314 : BitVec 32 := Scalar.addi v313 c0_i32_123
  let v315 : Index := Scalar.indexCast v314
  let c23 : Index := 23#32
  ![v315.toNat, 23]
def k0_off69 (i : grid0.Coords) (c0_i32_128 : BitVec 32) : Fin 2 → Nat :=
  let arg1 : BitVec 32 := BitVec.ofNat 32 (i 1).val
  let c8_i32_127 : BitVec 32 := 8#32
  let v326 : BitVec 32 := Scalar.muli arg1 c8_i32_127
  let v327 : BitVec 32 := Scalar.addi v326 c0_i32_128
  let v328 : Index := Scalar.indexCast v327
  let c24 : Index := 24#32
  ![v328.toNat, 24]
def k0_off70 (i : grid0.Coords) (c0_i32_133 : BitVec 32) : Fin 2 → Nat :=
  let arg1 : BitVec 32 := BitVec.ofNat 32 (i 1).val
  let c8_i32_132 : BitVec 32 := 8#32
  let v339 : BitVec 32 := Scalar.muli arg1 c8_i32_132
  let v340 : BitVec 32 := Scalar.addi v339 c0_i32_133
  let v341 : Index := Scalar.indexCast v340
  let c25 : Index := 25#32
  ![v341.toNat, 25]
def k0_off71 (i : grid0.Coords) (c0_i32_138 : BitVec 32) : Fin 2 → Nat :=
  let arg1 : BitVec 32 := BitVec.ofNat 32 (i 1).val
  let c8_i32_137 : BitVec 32 := 8#32
  let v352 : BitVec 32 := Scalar.muli arg1 c8_i32_137
  let v353 : BitVec 32 := Scalar.addi v352 c0_i32_138
  let v354 : Index := Scalar.indexCast v353
  let c26 : Index := 26#32
  ![v354.toNat, 26]
def k0_off72 (i : grid0.Coords) (c0_i32_143 : BitVec 32) : Fin 2 → Nat :=
  let arg1 : BitVec 32 := BitVec.ofNat 32 (i 1).val
  let c8_i32_142 : BitVec 32 := 8#32
  let v365 : BitVec 32 := Scalar.muli arg1 c8_i32_142
  let v366 : BitVec 32 := Scalar.addi v365 c0_i32_143
  let v367 : Index := Scalar.indexCast v366
  let c27 : Index := 27#32
  ![v367.toNat, 27]
def k0_off73 (i : grid0.Coords) (c0_i32_148 : BitVec 32) : Fin 2 → Nat :=
  let arg1 : BitVec 32 := BitVec.ofNat 32 (i 1).val
  let c8_i32_147 : BitVec 32 := 8#32
  let v378 : BitVec 32 := Scalar.muli arg1 c8_i32_147
  let v379 : BitVec 32 := Scalar.addi v378 c0_i32_148
  let v380 : Index := Scalar.indexCast v379
  let c28 : Index := 28#32
  ![v380.toNat, 28]
def k0_off74 (i : grid0.Coords) (c0_i32_153 : BitVec 32) : Fin 2 → Nat :=
  let arg1 : BitVec 32 := BitVec.ofNat 32 (i 1).val
  let c8_i32_152 : BitVec 32 := 8#32
  let v391 : BitVec 32 := Scalar.muli arg1 c8_i32_152
  let v392 : BitVec 32 := Scalar.addi v391 c0_i32_153
  let v393 : Index := Scalar.indexCast v392
  let c29 : Index := 29#32
  ![v393.toNat, 29]
def k0_off75 (i : grid0.Coords) (c0_i32_158 : BitVec 32) : Fin 2 → Nat :=
  let arg1 : BitVec 32 := BitVec.ofNat 32 (i 1).val
  let c8_i32_157 : BitVec 32 := 8#32
  let v404 : BitVec 32 := Scalar.muli arg1 c8_i32_157
  let v405 : BitVec 32 := Scalar.addi v404 c0_i32_158
  let v406 : Index := Scalar.indexCast v405
  let c30 : Index := 30#32
  ![v406.toNat, 30]
def k0_off76 (i : grid0.Coords) (c0_i32_163 : BitVec 32) : Fin 2 → Nat :=
  let arg1 : BitVec 32 := BitVec.ofNat 32 (i 1).val
  let c8_i32_162 : BitVec 32 := 8#32
  let v417 : BitVec 32 := Scalar.muli arg1 c8_i32_162
  let v418 : BitVec 32 := Scalar.addi v417 c0_i32_163
  let v419 : Index := Scalar.indexCast v418
  let c31 : Index := 31#32
  ![v419.toNat, 31]
def k0_off77 (i : grid0.Coords) (c0_i32_168 : BitVec 32) : Fin 2 → Nat :=
  let arg1 : BitVec 32 := BitVec.ofNat 32 (i 1).val
  let c8_i32_167 : BitVec 32 := 8#32
  let v430 : BitVec 32 := Scalar.muli arg1 c8_i32_167
  let v431 : BitVec 32 := Scalar.addi v430 c0_i32_168
  let v432 : Index := Scalar.indexCast v431
  let c32 : Index := 32#32
  ![v432.toNat, 32]
def k0_off78 (i : grid0.Coords) (c0_i32_173 : BitVec 32) : Fin 2 → Nat :=
  let arg1 : BitVec 32 := BitVec.ofNat 32 (i 1).val
  let c8_i32_172 : BitVec 32 := 8#32
  let v443 : BitVec 32 := Scalar.muli arg1 c8_i32_172
  let v444 : BitVec 32 := Scalar.addi v443 c0_i32_173
  let v445 : Index := Scalar.indexCast v444
  let c33 : Index := 33#32
  ![v445.toNat, 33]
def k0_off79 (i : grid0.Coords) (c0_i32_178 : BitVec 32) : Fin 2 → Nat :=
  let arg1 : BitVec 32 := BitVec.ofNat 32 (i 1).val
  let c8_i32_177 : BitVec 32 := 8#32
  let v456 : BitVec 32 := Scalar.muli arg1 c8_i32_177
  let v457 : BitVec 32 := Scalar.addi v456 c0_i32_178
  let v458 : Index := Scalar.indexCast v457
  let c34 : Index := 34#32
  ![v458.toNat, 34]
def k0_off80 (i : grid0.Coords) (c0_i32_183 : BitVec 32) : Fin 2 → Nat :=
  let arg1 : BitVec 32 := BitVec.ofNat 32 (i 1).val
  let c8_i32_182 : BitVec 32 := 8#32
  let v469 : BitVec 32 := Scalar.muli arg1 c8_i32_182
  let v470 : BitVec 32 := Scalar.addi v469 c0_i32_183
  let v471 : Index := Scalar.indexCast v470
  let c35 : Index := 35#32
  ![v471.toNat, 35]
def k0_off81 (i : grid0.Coords) (c0_i32_188 : BitVec 32) : Fin 2 → Nat :=
  let arg1 : BitVec 32 := BitVec.ofNat 32 (i 1).val
  let c8_i32_187 : BitVec 32 := 8#32
  let v482 : BitVec 32 := Scalar.muli arg1 c8_i32_187
  let v483 : BitVec 32 := Scalar.addi v482 c0_i32_188
  let v484 : Index := Scalar.indexCast v483
  let c36 : Index := 36#32
  ![v484.toNat, 36]
def k0_off82 (i : grid0.Coords) (c0_i32_193 : BitVec 32) : Fin 2 → Nat :=
  let arg1 : BitVec 32 := BitVec.ofNat 32 (i 1).val
  let c8_i32_192 : BitVec 32 := 8#32
  let v495 : BitVec 32 := Scalar.muli arg1 c8_i32_192
  let v496 : BitVec 32 := Scalar.addi v495 c0_i32_193
  let v497 : Index := Scalar.indexCast v496
  let c37 : Index := 37#32
  ![v497.toNat, 37]
def k0_off83 (i : grid0.Coords) (c0_i32_198 : BitVec 32) : Fin 2 → Nat :=
  let arg1 : BitVec 32 := BitVec.ofNat 32 (i 1).val
  let c8_i32_197 : BitVec 32 := 8#32
  let v508 : BitVec 32 := Scalar.muli arg1 c8_i32_197
  let v509 : BitVec 32 := Scalar.addi v508 c0_i32_198
  let v510 : Index := Scalar.indexCast v509
  let c38 : Index := 38#32
  ![v510.toNat, 38]
def k0_off84 (i : grid0.Coords) (c0_i32_203 : BitVec 32) : Fin 2 → Nat :=
  let arg1 : BitVec 32 := BitVec.ofNat 32 (i 1).val
  let c8_i32_202 : BitVec 32 := 8#32
  let v521 : BitVec 32 := Scalar.muli arg1 c8_i32_202
  let v522 : BitVec 32 := Scalar.addi v521 c0_i32_203
  let v523 : Index := Scalar.indexCast v522
  let c39 : Index := 39#32
  ![v523.toNat, 39]
def k0_off85 (i : grid0.Coords) (c0_i32_208 : BitVec 32) : Fin 2 → Nat :=
  let arg1 : BitVec 32 := BitVec.ofNat 32 (i 1).val
  let c8_i32_207 : BitVec 32 := 8#32
  let v534 : BitVec 32 := Scalar.muli arg1 c8_i32_207
  let v535 : BitVec 32 := Scalar.addi v534 c0_i32_208
  let v536 : Index := Scalar.indexCast v535
  let c40 : Index := 40#32
  ![v536.toNat, 40]
def k0_off86 (i : grid0.Coords) (c0_i32_213 : BitVec 32) : Fin 2 → Nat :=
  let arg1 : BitVec 32 := BitVec.ofNat 32 (i 1).val
  let c8_i32_212 : BitVec 32 := 8#32
  let v547 : BitVec 32 := Scalar.muli arg1 c8_i32_212
  let v548 : BitVec 32 := Scalar.addi v547 c0_i32_213
  let v549 : Index := Scalar.indexCast v548
  let c41 : Index := 41#32
  ![v549.toNat, 41]
def k0_off87 (i : grid0.Coords) (c0_i32_218 : BitVec 32) : Fin 2 → Nat :=
  let arg1 : BitVec 32 := BitVec.ofNat 32 (i 1).val
  let c8_i32_217 : BitVec 32 := 8#32
  let v560 : BitVec 32 := Scalar.muli arg1 c8_i32_217
  let v561 : BitVec 32 := Scalar.addi v560 c0_i32_218
  let v562 : Index := Scalar.indexCast v561
  let c42 : Index := 42#32
  ![v562.toNat, 42]
def k0_off88 (i : grid0.Coords) (c0_i32_223 : BitVec 32) : Fin 2 → Nat :=
  let arg1 : BitVec 32 := BitVec.ofNat 32 (i 1).val
  let c8_i32_222 : BitVec 32 := 8#32
  let v573 : BitVec 32 := Scalar.muli arg1 c8_i32_222
  let v574 : BitVec 32 := Scalar.addi v573 c0_i32_223
  let v575 : Index := Scalar.indexCast v574
  let c43 : Index := 43#32
  ![v575.toNat, 43]
def k0_cond4 (i : grid0.Coords) : BitVec 1 :=
  let arg1 : BitVec 32 := BitVec.ofNat 32 (i 1).val
  let c16_i32_4 : BitVec 32 := 16#32
  let v11 : BitVec 1 := Scalar.cmpi .eq arg1 c16_i32_4
  let v12 : BitVec 32 := Scalar.extui v11
  let c0_i32_5 : BitVec 32 := 0#32
  let v13 : BitVec 1 := Scalar.cmpi .ne v12 c0_i32_5
  v13

def k0_off89 (i : grid0.Coords) (c0_i32_7 : BitVec 32) : Fin 2 → Nat :=
  let arg1 : BitVec 32 := BitVec.ofNat 32 (i 1).val
  let c8_i32_6 : BitVec 32 := 8#32
  let v14 : BitVec 32 := Scalar.muli arg1 c8_i32_6
  let v15 : BitVec 32 := Scalar.addi v14 c0_i32_7
  let v16 : Index := Scalar.indexCast v15
  let c0 : Index := 0#32
  ![v16.toNat, 0]
def k0_off90 (i : grid0.Coords) (c0_i32_13 : BitVec 32) : Fin 2 → Nat :=
  let arg1 : BitVec 32 := BitVec.ofNat 32 (i 1).val
  let c8_i32_12 : BitVec 32 := 8#32
  let v27 : BitVec 32 := Scalar.muli arg1 c8_i32_12
  let v28 : BitVec 32 := Scalar.addi v27 c0_i32_13
  let v29 : Index := Scalar.indexCast v28
  let c1 : Index := 1#32
  ![v29.toNat, 1]
def k0_off91 (i : grid0.Coords) (c0_i32_18 : BitVec 32) : Fin 2 → Nat :=
  let arg1 : BitVec 32 := BitVec.ofNat 32 (i 1).val
  let c8_i32_17 : BitVec 32 := 8#32
  let v40 : BitVec 32 := Scalar.muli arg1 c8_i32_17
  let v41 : BitVec 32 := Scalar.addi v40 c0_i32_18
  let v42 : Index := Scalar.indexCast v41
  let c2 : Index := 2#32
  ![v42.toNat, 2]
def k0_off92 (i : grid0.Coords) (c0_i32_23 : BitVec 32) : Fin 2 → Nat :=
  let arg1 : BitVec 32 := BitVec.ofNat 32 (i 1).val
  let c8_i32_22 : BitVec 32 := 8#32
  let v53 : BitVec 32 := Scalar.muli arg1 c8_i32_22
  let v54 : BitVec 32 := Scalar.addi v53 c0_i32_23
  let v55 : Index := Scalar.indexCast v54
  let c3 : Index := 3#32
  ![v55.toNat, 3]
def k0_off93 (i : grid0.Coords) (c0_i32_28 : BitVec 32) : Fin 2 → Nat :=
  let arg1 : BitVec 32 := BitVec.ofNat 32 (i 1).val
  let c8_i32_27 : BitVec 32 := 8#32
  let v66 : BitVec 32 := Scalar.muli arg1 c8_i32_27
  let v67 : BitVec 32 := Scalar.addi v66 c0_i32_28
  let v68 : Index := Scalar.indexCast v67
  let c4 : Index := 4#32
  ![v68.toNat, 4]
def k0_off94 (i : grid0.Coords) (c0_i32_33 : BitVec 32) : Fin 2 → Nat :=
  let arg1 : BitVec 32 := BitVec.ofNat 32 (i 1).val
  let c8_i32_32 : BitVec 32 := 8#32
  let v79 : BitVec 32 := Scalar.muli arg1 c8_i32_32
  let v80 : BitVec 32 := Scalar.addi v79 c0_i32_33
  let v81 : Index := Scalar.indexCast v80
  let c5 : Index := 5#32
  ![v81.toNat, 5]
def k0_off95 (i : grid0.Coords) (c0_i32_38 : BitVec 32) : Fin 2 → Nat :=
  let arg1 : BitVec 32 := BitVec.ofNat 32 (i 1).val
  let c8_i32_37 : BitVec 32 := 8#32
  let v92 : BitVec 32 := Scalar.muli arg1 c8_i32_37
  let v93 : BitVec 32 := Scalar.addi v92 c0_i32_38
  let v94 : Index := Scalar.indexCast v93
  let c6 : Index := 6#32
  ![v94.toNat, 6]
def k0_off96 (i : grid0.Coords) (c0_i32_43 : BitVec 32) : Fin 2 → Nat :=
  let arg1 : BitVec 32 := BitVec.ofNat 32 (i 1).val
  let c8_i32_42 : BitVec 32 := 8#32
  let v105 : BitVec 32 := Scalar.muli arg1 c8_i32_42
  let v106 : BitVec 32 := Scalar.addi v105 c0_i32_43
  let v107 : Index := Scalar.indexCast v106
  let c7 : Index := 7#32
  ![v107.toNat, 7]
def k0_off97 (i : grid0.Coords) (c0_i32_48 : BitVec 32) : Fin 2 → Nat :=
  let arg1 : BitVec 32 := BitVec.ofNat 32 (i 1).val
  let c8_i32_47 : BitVec 32 := 8#32
  let v118 : BitVec 32 := Scalar.muli arg1 c8_i32_47
  let v119 : BitVec 32 := Scalar.addi v118 c0_i32_48
  let v120 : Index := Scalar.indexCast v119
  let c8 : Index := 8#32
  ![v120.toNat, 8]
def k0_off98 (i : grid0.Coords) (c0_i32_53 : BitVec 32) : Fin 2 → Nat :=
  let arg1 : BitVec 32 := BitVec.ofNat 32 (i 1).val
  let c8_i32_52 : BitVec 32 := 8#32
  let v131 : BitVec 32 := Scalar.muli arg1 c8_i32_52
  let v132 : BitVec 32 := Scalar.addi v131 c0_i32_53
  let v133 : Index := Scalar.indexCast v132
  let c9 : Index := 9#32
  ![v133.toNat, 9]
def k0_off99 (i : grid0.Coords) (c0_i32_58 : BitVec 32) : Fin 2 → Nat :=
  let arg1 : BitVec 32 := BitVec.ofNat 32 (i 1).val
  let c8_i32_57 : BitVec 32 := 8#32
  let v144 : BitVec 32 := Scalar.muli arg1 c8_i32_57
  let v145 : BitVec 32 := Scalar.addi v144 c0_i32_58
  let v146 : Index := Scalar.indexCast v145
  let c10 : Index := 10#32
  ![v146.toNat, 10]
def k0_off100 (i : grid0.Coords) (c0_i32_63 : BitVec 32) : Fin 2 → Nat :=
  let arg1 : BitVec 32 := BitVec.ofNat 32 (i 1).val
  let c8_i32_62 : BitVec 32 := 8#32
  let v157 : BitVec 32 := Scalar.muli arg1 c8_i32_62
  let v158 : BitVec 32 := Scalar.addi v157 c0_i32_63
  let v159 : Index := Scalar.indexCast v158
  let c11 : Index := 11#32
  ![v159.toNat, 11]
def k0_off101 (i : grid0.Coords) (c0_i32_68 : BitVec 32) : Fin 2 → Nat :=
  let arg1 : BitVec 32 := BitVec.ofNat 32 (i 1).val
  let c8_i32_67 : BitVec 32 := 8#32
  let v170 : BitVec 32 := Scalar.muli arg1 c8_i32_67
  let v171 : BitVec 32 := Scalar.addi v170 c0_i32_68
  let v172 : Index := Scalar.indexCast v171
  let c12 : Index := 12#32
  ![v172.toNat, 12]
def k0_off102 (i : grid0.Coords) (c0_i32_73 : BitVec 32) : Fin 2 → Nat :=
  let arg1 : BitVec 32 := BitVec.ofNat 32 (i 1).val
  let c8_i32_72 : BitVec 32 := 8#32
  let v183 : BitVec 32 := Scalar.muli arg1 c8_i32_72
  let v184 : BitVec 32 := Scalar.addi v183 c0_i32_73
  let v185 : Index := Scalar.indexCast v184
  let c13 : Index := 13#32
  ![v185.toNat, 13]
def k0_off103 (i : grid0.Coords) (c0_i32_78 : BitVec 32) : Fin 2 → Nat :=
  let arg1 : BitVec 32 := BitVec.ofNat 32 (i 1).val
  let c8_i32_77 : BitVec 32 := 8#32
  let v196 : BitVec 32 := Scalar.muli arg1 c8_i32_77
  let v197 : BitVec 32 := Scalar.addi v196 c0_i32_78
  let v198 : Index := Scalar.indexCast v197
  let c14 : Index := 14#32
  ![v198.toNat, 14]
def k0_off104 (i : grid0.Coords) (c0_i32_83 : BitVec 32) : Fin 2 → Nat :=
  let arg1 : BitVec 32 := BitVec.ofNat 32 (i 1).val
  let c8_i32_82 : BitVec 32 := 8#32
  let v209 : BitVec 32 := Scalar.muli arg1 c8_i32_82
  let v210 : BitVec 32 := Scalar.addi v209 c0_i32_83
  let v211 : Index := Scalar.indexCast v210
  let c15 : Index := 15#32
  ![v211.toNat, 15]
def k0_off105 (i : grid0.Coords) (c0_i32_88 : BitVec 32) : Fin 2 → Nat :=
  let arg1 : BitVec 32 := BitVec.ofNat 32 (i 1).val
  let c8_i32_87 : BitVec 32 := 8#32
  let v222 : BitVec 32 := Scalar.muli arg1 c8_i32_87
  let v223 : BitVec 32 := Scalar.addi v222 c0_i32_88
  let v224 : Index := Scalar.indexCast v223
  let c16 : Index := 16#32
  ![v224.toNat, 16]
def k0_off106 (i : grid0.Coords) (c0_i32_93 : BitVec 32) : Fin 2 → Nat :=
  let arg1 : BitVec 32 := BitVec.ofNat 32 (i 1).val
  let c8_i32_92 : BitVec 32 := 8#32
  let v235 : BitVec 32 := Scalar.muli arg1 c8_i32_92
  let v236 : BitVec 32 := Scalar.addi v235 c0_i32_93
  let v237 : Index := Scalar.indexCast v236
  let c17 : Index := 17#32
  ![v237.toNat, 17]
def k0_off107 (i : grid0.Coords) (c0_i32_98 : BitVec 32) : Fin 2 → Nat :=
  let arg1 : BitVec 32 := BitVec.ofNat 32 (i 1).val
  let c8_i32_97 : BitVec 32 := 8#32
  let v248 : BitVec 32 := Scalar.muli arg1 c8_i32_97
  let v249 : BitVec 32 := Scalar.addi v248 c0_i32_98
  let v250 : Index := Scalar.indexCast v249
  let c18 : Index := 18#32
  ![v250.toNat, 18]
def k0_off108 (i : grid0.Coords) (c0_i32_103 : BitVec 32) : Fin 2 → Nat :=
  let arg1 : BitVec 32 := BitVec.ofNat 32 (i 1).val
  let c8_i32_102 : BitVec 32 := 8#32
  let v261 : BitVec 32 := Scalar.muli arg1 c8_i32_102
  let v262 : BitVec 32 := Scalar.addi v261 c0_i32_103
  let v263 : Index := Scalar.indexCast v262
  let c19 : Index := 19#32
  ![v263.toNat, 19]
def k0_off109 (i : grid0.Coords) (c0_i32_108 : BitVec 32) : Fin 2 → Nat :=
  let arg1 : BitVec 32 := BitVec.ofNat 32 (i 1).val
  let c8_i32_107 : BitVec 32 := 8#32
  let v274 : BitVec 32 := Scalar.muli arg1 c8_i32_107
  let v275 : BitVec 32 := Scalar.addi v274 c0_i32_108
  let v276 : Index := Scalar.indexCast v275
  let c20 : Index := 20#32
  ![v276.toNat, 20]
def k0_off110 (i : grid0.Coords) (c0_i32_113 : BitVec 32) : Fin 2 → Nat :=
  let arg1 : BitVec 32 := BitVec.ofNat 32 (i 1).val
  let c8_i32_112 : BitVec 32 := 8#32
  let v287 : BitVec 32 := Scalar.muli arg1 c8_i32_112
  let v288 : BitVec 32 := Scalar.addi v287 c0_i32_113
  let v289 : Index := Scalar.indexCast v288
  let c21 : Index := 21#32
  ![v289.toNat, 21]
def k0_off111 (i : grid0.Coords) (c0_i32_118 : BitVec 32) : Fin 2 → Nat :=
  let arg1 : BitVec 32 := BitVec.ofNat 32 (i 1).val
  let c8_i32_117 : BitVec 32 := 8#32
  let v300 : BitVec 32 := Scalar.muli arg1 c8_i32_117
  let v301 : BitVec 32 := Scalar.addi v300 c0_i32_118
  let v302 : Index := Scalar.indexCast v301
  let c22 : Index := 22#32
  ![v302.toNat, 22]
def k0_off112 (i : grid0.Coords) (c0_i32_123 : BitVec 32) : Fin 2 → Nat :=
  let arg1 : BitVec 32 := BitVec.ofNat 32 (i 1).val
  let c8_i32_122 : BitVec 32 := 8#32
  let v313 : BitVec 32 := Scalar.muli arg1 c8_i32_122
  let v314 : BitVec 32 := Scalar.addi v313 c0_i32_123
  let v315 : Index := Scalar.indexCast v314
  let c23 : Index := 23#32
  ![v315.toNat, 23]
def k0_off113 (i : grid0.Coords) (c0_i32_128 : BitVec 32) : Fin 2 → Nat :=
  let arg1 : BitVec 32 := BitVec.ofNat 32 (i 1).val
  let c8_i32_127 : BitVec 32 := 8#32
  let v326 : BitVec 32 := Scalar.muli arg1 c8_i32_127
  let v327 : BitVec 32 := Scalar.addi v326 c0_i32_128
  let v328 : Index := Scalar.indexCast v327
  let c24 : Index := 24#32
  ![v328.toNat, 24]
def k0_off114 (i : grid0.Coords) (c0_i32_133 : BitVec 32) : Fin 2 → Nat :=
  let arg1 : BitVec 32 := BitVec.ofNat 32 (i 1).val
  let c8_i32_132 : BitVec 32 := 8#32
  let v339 : BitVec 32 := Scalar.muli arg1 c8_i32_132
  let v340 : BitVec 32 := Scalar.addi v339 c0_i32_133
  let v341 : Index := Scalar.indexCast v340
  let c25 : Index := 25#32
  ![v341.toNat, 25]
def k0_off115 (i : grid0.Coords) (c0_i32_138 : BitVec 32) : Fin 2 → Nat :=
  let arg1 : BitVec 32 := BitVec.ofNat 32 (i 1).val
  let c8_i32_137 : BitVec 32 := 8#32
  let v352 : BitVec 32 := Scalar.muli arg1 c8_i32_137
  let v353 : BitVec 32 := Scalar.addi v352 c0_i32_138
  let v354 : Index := Scalar.indexCast v353
  let c26 : Index := 26#32
  ![v354.toNat, 26]
def k0_off116 (i : grid0.Coords) (c0_i32_143 : BitVec 32) : Fin 2 → Nat :=
  let arg1 : BitVec 32 := BitVec.ofNat 32 (i 1).val
  let c8_i32_142 : BitVec 32 := 8#32
  let v365 : BitVec 32 := Scalar.muli arg1 c8_i32_142
  let v366 : BitVec 32 := Scalar.addi v365 c0_i32_143
  let v367 : Index := Scalar.indexCast v366
  let c27 : Index := 27#32
  ![v367.toNat, 27]
def k0_off117 (i : grid0.Coords) (c0_i32_148 : BitVec 32) : Fin 2 → Nat :=
  let arg1 : BitVec 32 := BitVec.ofNat 32 (i 1).val
  let c8_i32_147 : BitVec 32 := 8#32
  let v378 : BitVec 32 := Scalar.muli arg1 c8_i32_147
  let v379 : BitVec 32 := Scalar.addi v378 c0_i32_148
  let v380 : Index := Scalar.indexCast v379
  let c28 : Index := 28#32
  ![v380.toNat, 28]
def k0_off118 (i : grid0.Coords) (c0_i32_153 : BitVec 32) : Fin 2 → Nat :=
  let arg1 : BitVec 32 := BitVec.ofNat 32 (i 1).val
  let c8_i32_152 : BitVec 32 := 8#32
  let v391 : BitVec 32 := Scalar.muli arg1 c8_i32_152
  let v392 : BitVec 32 := Scalar.addi v391 c0_i32_153
  let v393 : Index := Scalar.indexCast v392
  let c29 : Index := 29#32
  ![v393.toNat, 29]
def k0_off119 (i : grid0.Coords) (c0_i32_158 : BitVec 32) : Fin 2 → Nat :=
  let arg1 : BitVec 32 := BitVec.ofNat 32 (i 1).val
  let c8_i32_157 : BitVec 32 := 8#32
  let v404 : BitVec 32 := Scalar.muli arg1 c8_i32_157
  let v405 : BitVec 32 := Scalar.addi v404 c0_i32_158
  let v406 : Index := Scalar.indexCast v405
  let c30 : Index := 30#32
  ![v406.toNat, 30]
def k0_off120 (i : grid0.Coords) (c0_i32_163 : BitVec 32) : Fin 2 → Nat :=
  let arg1 : BitVec 32 := BitVec.ofNat 32 (i 1).val
  let c8_i32_162 : BitVec 32 := 8#32
  let v417 : BitVec 32 := Scalar.muli arg1 c8_i32_162
  let v418 : BitVec 32 := Scalar.addi v417 c0_i32_163
  let v419 : Index := Scalar.indexCast v418
  let c31 : Index := 31#32
  ![v419.toNat, 31]
def k0_off121 (i : grid0.Coords) (c0_i32_168 : BitVec 32) : Fin 2 → Nat :=
  let arg1 : BitVec 32 := BitVec.ofNat 32 (i 1).val
  let c8_i32_167 : BitVec 32 := 8#32
  let v430 : BitVec 32 := Scalar.muli arg1 c8_i32_167
  let v431 : BitVec 32 := Scalar.addi v430 c0_i32_168
  let v432 : Index := Scalar.indexCast v431
  let c32 : Index := 32#32
  ![v432.toNat, 32]
def k0_off122 (i : grid0.Coords) (c0_i32_173 : BitVec 32) : Fin 2 → Nat :=
  let arg1 : BitVec 32 := BitVec.ofNat 32 (i 1).val
  let c8_i32_172 : BitVec 32 := 8#32
  let v443 : BitVec 32 := Scalar.muli arg1 c8_i32_172
  let v444 : BitVec 32 := Scalar.addi v443 c0_i32_173
  let v445 : Index := Scalar.indexCast v444
  let c33 : Index := 33#32
  ![v445.toNat, 33]
def k0_off123 (i : grid0.Coords) (c0_i32_178 : BitVec 32) : Fin 2 → Nat :=
  let arg1 : BitVec 32 := BitVec.ofNat 32 (i 1).val
  let c8_i32_177 : BitVec 32 := 8#32
  let v456 : BitVec 32 := Scalar.muli arg1 c8_i32_177
  let v457 : BitVec 32 := Scalar.addi v456 c0_i32_178
  let v458 : Index := Scalar.indexCast v457
  let c34 : Index := 34#32
  ![v458.toNat, 34]
def k0_off124 (i : grid0.Coords) (c0_i32_183 : BitVec 32) : Fin 2 → Nat :=
  let arg1 : BitVec 32 := BitVec.ofNat 32 (i 1).val
  let c8_i32_182 : BitVec 32 := 8#32
  let v469 : BitVec 32 := Scalar.muli arg1 c8_i32_182
  let v470 : BitVec 32 := Scalar.addi v469 c0_i32_183
  let v471 : Index := Scalar.indexCast v470
  let c35 : Index := 35#32
  ![v471.toNat, 35]
def k0_off125 (i : grid0.Coords) (c0_i32_188 : BitVec 32) : Fin 2 → Nat :=
  let arg1 : BitVec 32 := BitVec.ofNat 32 (i 1).val
  let c8_i32_187 : BitVec 32 := 8#32
  let v482 : BitVec 32 := Scalar.muli arg1 c8_i32_187
  let v483 : BitVec 32 := Scalar.addi v482 c0_i32_188
  let v484 : Index := Scalar.indexCast v483
  let c36 : Index := 36#32
  ![v484.toNat, 36]
def k0_off126 (i : grid0.Coords) (c0_i32_193 : BitVec 32) : Fin 2 → Nat :=
  let arg1 : BitVec 32 := BitVec.ofNat 32 (i 1).val
  let c8_i32_192 : BitVec 32 := 8#32
  let v495 : BitVec 32 := Scalar.muli arg1 c8_i32_192
  let v496 : BitVec 32 := Scalar.addi v495 c0_i32_193
  let v497 : Index := Scalar.indexCast v496
  let c37 : Index := 37#32
  ![v497.toNat, 37]
def k0_off127 (i : grid0.Coords) (c0_i32_198 : BitVec 32) : Fin 2 → Nat :=
  let arg1 : BitVec 32 := BitVec.ofNat 32 (i 1).val
  let c8_i32_197 : BitVec 32 := 8#32
  let v508 : BitVec 32 := Scalar.muli arg1 c8_i32_197
  let v509 : BitVec 32 := Scalar.addi v508 c0_i32_198
  let v510 : Index := Scalar.indexCast v509
  let c38 : Index := 38#32
  ![v510.toNat, 38]
def k0_off128 (i : grid0.Coords) (c0_i32_203 : BitVec 32) : Fin 2 → Nat :=
  let arg1 : BitVec 32 := BitVec.ofNat 32 (i 1).val
  let c8_i32_202 : BitVec 32 := 8#32
  let v521 : BitVec 32 := Scalar.muli arg1 c8_i32_202
  let v522 : BitVec 32 := Scalar.addi v521 c0_i32_203
  let v523 : Index := Scalar.indexCast v522
  let c39 : Index := 39#32
  ![v523.toNat, 39]
def k0_off129 (i : grid0.Coords) (c0_i32_208 : BitVec 32) : Fin 2 → Nat :=
  let arg1 : BitVec 32 := BitVec.ofNat 32 (i 1).val
  let c8_i32_207 : BitVec 32 := 8#32
  let v534 : BitVec 32 := Scalar.muli arg1 c8_i32_207
  let v535 : BitVec 32 := Scalar.addi v534 c0_i32_208
  let v536 : Index := Scalar.indexCast v535
  let c40 : Index := 40#32
  ![v536.toNat, 40]
def k0_off130 (i : grid0.Coords) (c0_i32_213 : BitVec 32) : Fin 2 → Nat :=
  let arg1 : BitVec 32 := BitVec.ofNat 32 (i 1).val
  let c8_i32_212 : BitVec 32 := 8#32
  let v547 : BitVec 32 := Scalar.muli arg1 c8_i32_212
  let v548 : BitVec 32 := Scalar.addi v547 c0_i32_213
  let v549 : Index := Scalar.indexCast v548
  let c41 : Index := 41#32
  ![v549.toNat, 41]
def k0_off131 (i : grid0.Coords) (c0_i32_218 : BitVec 32) : Fin 2 → Nat :=
  let arg1 : BitVec 32 := BitVec.ofNat 32 (i 1).val
  let c8_i32_217 : BitVec 32 := 8#32
  let v560 : BitVec 32 := Scalar.muli arg1 c8_i32_217
  let v561 : BitVec 32 := Scalar.addi v560 c0_i32_218
  let v562 : Index := Scalar.indexCast v561
  let c42 : Index := 42#32
  ![v562.toNat, 42]
def k0_off132 (i : grid0.Coords) (c0_i32_223 : BitVec 32) : Fin 2 → Nat :=
  let arg1 : BitVec 32 := BitVec.ofNat 32 (i 1).val
  let c8_i32_222 : BitVec 32 := 8#32
  let v573 : BitVec 32 := Scalar.muli arg1 c8_i32_222
  let v574 : BitVec 32 := Scalar.addi v573 c0_i32_223
  let v575 : Index := Scalar.indexCast v574
  let c43 : Index := 43#32
  ![v575.toNat, 43]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x5632 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S131x44 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x5632 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x44 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x2048x5632 : Shape := ⟨3, ![8, 2048, 5632]⟩
abbrev S16768x5632 : Shape := ⟨2, ![16768, 5632]⟩
abbrev S131x44 : Shape := ⟨2, ![131, 44]⟩
abbrev S8x2048x8192 : Shape := ⟨3, ![8, 2048, 8192]⟩
abbrev S8x2048x128 : Shape := ⟨3, ![8, 2048, 128]⟩
abbrev S8x2048x44 : Shape := ⟨3, ![8, 2048, 44]⟩
abbrev S8x2048x44x128 : Shape := ⟨4, ![8, 2048, 44, 128]⟩
abbrev S8x2048x44x1 : Shape := ⟨4, ![8, 2048, 44, 1]⟩
abbrev S16384x5632 : Shape := ⟨2, ![16384, 5632]⟩
abbrev S131x1x44 : Shape := ⟨3, ![131, 1, 44]⟩
abbrev S131x128x44 : Shape := ⟨3, ![131, 128, 44]⟩
abbrev S16768x44 : Shape := ⟨2, ![16768, 44]⟩
abbrev S16768x44x128 : Shape := ⟨3, ![16768, 44, 128]⟩
abbrev S16768x44x1 : Shape := ⟨3, ![16768, 44, 1]⟩
abbrev S16384x16768 : Shape := ⟨2, ![16384, 16768]⟩
abbrev S8x2048x16768 : Shape := ⟨3, ![8, 2048, 16768]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x5632, .bf16⟩
  | .hbm, ⟨1, _⟩ => ⟨S16768x5632, .fp8e4m3⟩
  | .hbm, ⟨2, _⟩ => ⟨S131x44, .f32⟩
  | .hbm, ⟨3, _⟩ => ⟨S8x2048x8192, .bf16⟩
  | .hbm, ⟨4, _⟩ => ⟨S8x2048x8192, .bf16⟩
  | .hbm, ⟨5, _⟩ => ⟨S8x2048x128, .bf16⟩
  | .hbm, ⟨6, _⟩ => ⟨S8x2048x128, .bf16⟩
  | .hbm, ⟨7, _⟩ => ⟨S8x2048x128, .bf16⟩
  | .hbm, ⟨8, _⟩ => ⟨S8x2048x5632, .fp8e4m3⟩
  | .hbm, ⟨9, _⟩ => ⟨S8x2048x44, .f32⟩
  | .local _ .vmem, ⟨0, _⟩ => ⟨S8x2048x5632, .bf16⟩
  | .local _ .vmem, ⟨1, _⟩ => ⟨S16768x5632, .fp8e4m3⟩
  | .local _ .vmem, ⟨2, _⟩ => ⟨S131x44, .f32⟩
  | .local _ .vmem, ⟨3, _⟩ => ⟨S8x2048x8192, .bf16⟩
  | .local _ .vmem, ⟨4, _⟩ => ⟨S8x2048x8192, .bf16⟩
  | .local _ .vmem, ⟨5, _⟩ => ⟨S8x2048x128, .bf16⟩
  | .local _ .vmem, ⟨6, _⟩ => ⟨S8x2048x128, .bf16⟩
  | .local _ .vmem, ⟨7, _⟩ => ⟨S8x2048x128, .bf16⟩
  | .local _ .vmem, ⟨8, _⟩ => ⟨S8x2048x5632, .fp8e4m3⟩
  | .local _ .vmem, ⟨9, _⟩ => ⟨S8x2048x44, .f32⟩
  | _, _ => ⟨S8x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x2048x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16768x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S131x44 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048x44 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Steps.lean ====
/- The kernel's body as three loops of one step each. The kernel is written out step by step: one step per group of
   128 columns of the activations, one step per 128×128 tile of the weights. This file states each step once and
   shows that the printed body is the loops of these steps. -/
module

public import proofs.«01_k».proof.KernelIdeal
public import Idealize.ShloMosaic.Lib.Pipeline.Regions

@[expose] public section

noncomputable section

namespace Cert.InProj

open Idealize.ShloMosaic Idealize.SL.Sem Cert.KernelIdeal
open Cert.KernelIdeal.Facts Cert.KernelIdeal.K0.Facts₀ Cert.KernelIdeal.Shapes1.Facts₀

variable {F : FTy → Type} [FloatOps F] [Facts]

/-- The activations of one group as float32. -/
def qVal (ub : Vec F S512x128 .bf16) : FVec F S512x128 .f32 :=
  extf .f32 (shapeCast S512x128 ub shapeCasts_S512x128_S512x128) bitsLt_bf16_f32

/-- The group's largest magnitude over 448, per row. -/
def qRatio (ub : Vec F S512x128 .bf16) : FVec F S512x1 .f32 :=
  mulf (shapeCast S512x1 (multiReduction .maximumf [1] S512 (absf (qVal ub)) 0xFF800000#32 reduces_S512x128_S512 (.inl rfl) rfl)
    shapeCasts_S512_S512x1) (broadcast S512x1 (Scalar.ofBits .f32 0x3B124925#32))

/-- The exponent field of that ratio: the last of 256 lanes whose power of two it reaches. -/
def qField (ub : Vec F S512x128 .bf16) : IVec S512x1 32 :=
  shapeCast S512x1 (multiReductionI .maxsi [1] S512
    (select (cmpf .oge (broadcastTo S512x256 (qRatio ub) broadcasts_S512x1_S512x256)
        (bitcastToFloat .f32 (shli (iota .tc S512x256 32 [1] iota_S512x256_d1_w32) (broadcast S512x256 23#32))))
      (iota .tc S512x256 32 [1] iota_S512x256_d1_w32) (broadcast S512x256 0#32))
    2147483648#32 reduces_S512x256_S512 rfl) shapeCasts_S512_S512x1

/-- The field with its two special values read as 126. -/
def qExp (ub : Vec F S512x128 .bf16) : IVec S512x1 32 :=
  select (ori (cmpi .eq (qField ub) (broadcast S512x1 0#32)) (cmpi .eq (qField ub) (broadcast S512x1 255#32)))
    (broadcast S512x1 126#32) (qField ub)

/-- The group's scale, a power of two. -/
def qScale (ub : Vec F S512x128 .bf16) : FVec F S512x1 .f32 :=
  bitcastToFloat .f32 (shli (addi (qExp ub) (broadcast S512x1 1#32)) (broadcast S512x1 23#32))

/-- The scale's inverse. -/
def qInv (ub : Vec F S512x128 .bf16) : FVec F S512x1 .f32 :=
  bitcastToFloat .f32 (shli (subi (broadcast S512x1 253#32) (qExp ub)) (broadcast S512x1 23#32))

/-- The group's codes. -/
def qCodes (ub : Vec F S512x128 .bf16) : FVec F S512x128 .fp8e4m3 :=
  truncf .fp8e4m3 (minimumf (broadcast S512x128 (Scalar.ofBits .f32 0x43E00000#32))
    (maximumf (broadcast S512x128 (Scalar.ofBits .f32 0xC3E00000#32))
      (mulf (qVal ub) (broadcastTo S512x128 (qInv ub) broadcasts_S512x1_S512x128)))) bitsLt_fp8e4m3_f32

/-- The codes scaled back, as stored for the products. -/
def qDeq (ub : Vec F S512x128 .bf16) : FVec F S512x128 .bf16 :=
  shapeCast S512x128 (mulf (extf .bf16 (qCodes ub) bitsLt_fp8e4m3_bf16)
    (broadcastTo S512x128 (truncf .bf16 (qScale ub) bitsLt_bf16_f32) broadcasts_S512x1_S512x128)) shapeCasts_S512x128_S512x128

/-- Group `g`'s scale put into its column of the scales gathered so far. -/
def qAcc (g : Nat) (ub : Vec F S512x128 .bf16) (acc : FVec F S512x44 .f32) : FVec F S512x44 .f32 :=
  select (cmpi .eq (iota .tc S512x44 32 [1] iota_S512x44_d1_w32) (broadcast S512x44 (BitVec.ofNat 32 g)))
    (broadcastTo S512x44 (shapeCast S512x1 (qScale ub) shapeCasts_S512x1_S512x1) broadcasts_S512x1_S512x44) acc

theorem inbU {g : Nat} (hg : g < 44) : ∀ a, (![0, 128 * g] : Fin 2 → Nat) a + S512x128.size a ≤ S512x5632.size a := by
  intro a; match a with
  | ⟨0, _⟩ => exact Nat.le_refl 512
  | ⟨1, _⟩ => show 128 * g + 128 ≤ 5632; omega

theorem packedU {g : Nat} (hg : g < 44) (p : Nat) (hp : p ∣ 512) :
    (Rect.unit (s := S512x5632) ![0, 128 * g] S512x128.size (inbU hg)).PackedRows p := by
  have h2 : 2 ≤ S512x5632.rank := by decide
  have e : S512x5632.rowAx h2 = (0 : Fin 2) := rfl
  refine .inr ⟨h2, rfl, .inl ⟨?_, ?_⟩⟩ <;> rw [e]
  · exact Nat.dvd_zero p
  · exact hp

theorem inbW {r g : Nat} (hr : r < 8) (hg : g < 44) :
    ∀ a, (![128 * r, 128 * g] : Fin 2 → Nat) a + S128x128.size a ≤ S1024x5632.size a := by
  intro a; match a with
  | ⟨0, _⟩ => show 128 * r + 128 ≤ 1024; omega
  | ⟨1, _⟩ => show 128 * g + 128 ≤ 5632; omega

theorem packedW {r g : Nat} (hr : r < 8) (hg : g < 44) :
    (Rect.unit (s := S1024x5632) ![128 * r, 128 * g] S128x128.size (inbW hr hg)).PackedRows (EltTy.packing .bf16) := by
  have h2 : 2 ≤ S1024x5632.rank := by decide
  have e : S1024x5632.rowAx h2 = (0 : Fin 2) := rfl
  refine .inr ⟨h2, rfl, .inl ⟨?_, ?_⟩⟩ <;> rw [e]
  · exact ⟨64 * r, by show 128 * r = 2 * (64 * r); omega⟩
  · exact ⟨64, rfl⟩

/-- One step of the quantiser: group `g` of the row block. -/
def qStep (arg2 : Memref sig .tc .vmem S512x5632 .bf16) (arg10 : Memref sig .tc .vmem S512x5632 .fp8e4m3) (harg10 : arg10.IsWhole)
    (arg12 : Memref sig .tc .vmem S512x5632 .bf16) (harg12 : arg12.IsWhole) (g : Nat) (hg : g < 44) (acc : FVec F S512x44 .f32) :
    Prog (TpuEff nD τ sig (Elt F) Λ₀ .tc) (FVec F S512x44 .f32) := do
  let ub : Vec F S512x128 .bf16 ← Prog.lift (.load arg2 (Rect.unit (s := S512x5632) ![0, 128 * g] S512x128.size (inbU hg)).toLoadRect (View.loadsAt_vmem h_S512x128))
  let _ : Vec F S512x128 .fp8e4m3 ← Prog.lift (.load arg10 (Rect.unit (s := S512x5632) ![0, 128 * g] S512x128.size (inbU hg)).toLoadRect (View.loadsAt_vmem h_S512x128))
  Prog.lift (.store arg10 (Rect.unit (s := S512x5632) ![0, 128 * g] S512x128.size (inbU hg)) (qCodes ub) Finset.univ (View.stores_vmem h_S512x128 (harg10.storeExact_slice rfl _ (packedU hg _ ⟨128, rfl⟩)) (fun _ => rfl)) (.inl rfl))
  let _ : Vec F S512x128 .bf16 ← Prog.lift (.load arg12 (Rect.unit (s := S512x5632) ![0, 128 * g] S512x128.size (inbU hg)).toLoadRect (View.loadsAt_vmem h_S512x128))
  Prog.lift (.store arg12 (Rect.unit (s := S512x5632) ![0, 128 * g] S512x128.size (inbU hg)) (qDeq ub) Finset.univ (View.stores_vmem h_S512x128 (harg12.storeExact_slice rfl _ (packedU hg _ ⟨256, rfl⟩)) (fun _ => rfl)) (.inl rfl))
  pure (qAcc g ub acc)

/-- The last `n` steps of the quantiser. -/
def qLoop (arg2 : Memref sig .tc .vmem S512x5632 .bf16) (arg10 : Memref sig .tc .vmem S512x5632 .fp8e4m3) (harg10 : arg10.IsWhole)
    (arg12 : Memref sig .tc .vmem S512x5632 .bf16) (harg12 : arg12.IsWhole) (n : Nat) :
    FVec F S512x44 .f32 → Prog (TpuEff nD τ sig (Elt F) Λ₀ .tc) (FVec F S512x44 .f32) :=
  Nat.rec (fun acc => pure acc)
    (fun n ih acc => qStep arg2 arg10 harg10 arg12 harg12 (44 - 1 - n) (by omega) acc >>= ih) n

/-- The quantiser: its 44 steps, then the scales stored. -/
def qProg (arg2 : Memref sig .tc .vmem S512x5632 .bf16) (arg10 : Memref sig .tc .vmem S512x5632 .fp8e4m3) (harg10 : arg10.IsWhole)
    (arg11 : Memref sig .tc .vmem S512x44 .f32) (arg12 : Memref sig .tc .vmem S512x5632 .bf16) (harg12 : arg12.IsWhole) :
    Prog (TpuEff nD τ sig (Elt F) Λ₀ .tc) PUnit := do
  let acc ← qLoop arg2 arg10 harg10 arg12 harg12 44 (broadcast S512x44 (Scalar.ofBits .f32 0x00000000#32))
  let _ : Vec F S512x44 .f32 ← Prog.lift (.load arg11 (Rect.unit (s := S512x44) ![0, 0] S512x44.size inb_S512x44_S512x44_0_0).toLoadRect (View.loadsAt_vmem h_S512x44))
  Prog.lift (.store arg11 (Rect.unit (s := S512x44) ![0, 0] S512x44.size inb_S512x44_S512x44_0_0) acc Finset.univ (View.stores_vmem_bits_univ h_S512x44 rfl) (.inl rfl))
  pure ⟨⟩

/-- A tile of the weights times its scale. -/
def deqPay (s : Elt F .f32) (w : Vec F S128x128 .fp8e4m3) : FVec F S128x128 .bf16 :=
  shapeCast S128x128 (mulf (extf .bf16 w bitsLt_fp8e4m3_bf16)
    (broadcastTo S128x128 (truncf .bf16 (broadcast S1x128 s) bitsLt_bf16_f32 : FVec F S1x128 .bf16) broadcasts_S1x128_S128x128)) shapeCasts_S128x128_S128x128

/-- Where the scale of tile `(r, g)` of the point's weight block lies. -/
def wsOff (i : grid0.Coords) (r g : Nat) : Fin 2 → Nat :=
  ![(Scalar.indexCast (Scalar.addi (Scalar.muli (BitVec.ofNat 32 (i 1).val) 8#32) (BitVec.ofNat 32 r))).toNat, g]

/-- One step of scaling the weights: tile `(r, g)`. -/
def deqStep (i : grid0.Coords) (arg3 : Memref sig .tc .vmem S1024x5632 .fp8e4m3) (arg4 : Memref sig .tc .smem S131x44 .f32)
    (arg13 : Memref sig .tc .vmem S1024x5632 .bf16) (harg13 : arg13.IsWhole) (r g : Nat) (hr : r < 8) (hg : g < 44)
    (hs : ∀ a, wsOff i r g a + S1x1.size a ≤ S131x44.size a) : Prog (TpuEff nD τ sig (Elt F) Λ₀ .tc) PUnit := do
  let s : Elt F .f32 ← smemLoad arg4 (Rect.unit (s := S131x44) (wsOff i r g) S1x1.size hs) numel1_S1x1 rfl
  let w : Vec F S128x128 .fp8e4m3 ← Prog.lift (.load arg3 (Rect.unit (s := S1024x5632) ![128 * r, 128 * g] S128x128.size (inbW hr hg)).toLoadRect (View.loadsAt_vmem h_S128x128))
  let _ : Vec F S128x128 .bf16 ← Prog.lift (.load arg13 (Rect.unit (s := S1024x5632) ![128 * r, 128 * g] S128x128.size (inbW hr hg)).toLoadRect (View.loadsAt_vmem h_S128x128))
  Prog.lift (.store arg13 (Rect.unit (s := S1024x5632) ![128 * r, 128 * g] S128x128.size (inbW hr hg)) (deqPay s w) Finset.univ (View.stores_vmem h_S128x128 (harg13.storeExact_slice rfl _ (packedW hr hg)) (fun _ => rfl)) (.inl rfl))

/-- The last `n` steps of scaling the first `R` rows of tiles. -/
def deqLoop (i : grid0.Coords) (arg3 : Memref sig .tc .vmem S1024x5632 .fp8e4m3) (arg4 : Memref sig .tc .smem S131x44 .f32)
    (arg13 : Memref sig .tc .vmem S1024x5632 .bf16) (harg13 : arg13.IsWhole) (R : Nat) (hR : R ≤ 8) (hR0 : 0 < R)
    (hs : ∀ r < R, ∀ g < 44, ∀ a, wsOff i r g a + S1x1.size a ≤ S131x44.size a) (n : Nat) :
    Prog (TpuEff nD τ sig (Elt F) Λ₀ .tc) PUnit :=
  Nat.rec (pure ⟨⟩)
    (fun n ih => deqStep i arg3 arg4 arg13 harg13 ((R * 44 - 1 - n) / 44) ((R * 44 - 1 - n) % 44) (by omega) (by omega)
      (hs _ (by omega) _ (by omega)) >>= fun _ => ih) n

/-- The product of the scaled activations and the point's scaled weights, stored to `argz`. -/
def dotProg (arg12 : Memref sig .tc .vmem S512x5632 .bf16) (arg13 : Memref sig .tc .vmem S1024x5632 .bf16)
    (argz : Memref sig .tc .vmem S512x1024 .bf16) (hargz : argz.IsWhole) : Prog (TpuEff nD τ sig (Elt F) Λ₀ .tc) PUnit := do
  let ub : Vec F S512x5632 .bf16 ← Prog.lift (.load arg12 (Rect.unit (s := S512x5632) ![0, 0] S512x5632.size inb_S512x5632_S512x5632_0_0).toLoadRect (View.loadsAt_vmem h_S512x5632))
  let wb : Vec F S1024x5632 .bf16 ← Prog.lift (.load arg13 (Rect.unit (s := S1024x5632) ![0, 0] S1024x5632.size inb_S1024x5632_S1024x5632_0_0).toLoadRect (View.loadsAt_vmem h_S1024x5632))
  let _ : Vec F S512x1024 .bf16 ← Prog.lift (.load argz (Rect.unit (s := S512x1024) ![0, 0] S512x1024.size inb_S512x1024_S512x1024_0_0).toLoadRect (View.loadsAt_vmem h_S512x1024))
  Prog.lift (.store argz (Rect.unit (s := S512x1024) ![0, 0] S512x1024.size inb_S512x1024_S512x1024_0_0)
    (truncf .bf16 (matmul dot_S512x5632_S1024x5632_S512x1024_1_1_0_0_n_n none ub wb (constant S512x1024 .f32 0x00000000#32)) bitsLt_bf16_f32 : FVec F S512x1024 .bf16)
    Finset.univ (View.stores_vmem h_S512x1024 (hargz.storeExact_slice rfl _ packedbf16_S512x1024_S512x1024_0_0) (fun _ => rfl)) (.inl rfl))
  pure ⟨⟩

/-- The last point's product: 384 rows of scaled weights. -/
def tailDot (ub : Vec F S512x5632 .bf16) (wb : Vec F S384x5632 .bf16) : FVec F S512x384 .bf16 :=
  truncf .bf16 (matmul dot_S512x5632_S384x5632_S512x384_1_1_0_0_n_n none ub wb (constant S512x384 .f32 0x00000000#32)) bitsLt_bf16_f32

/-- The last point's product stored in its three parts. -/
def tailProg (arg12 : Memref sig .tc .vmem S512x5632 .bf16) (arg13 : Memref sig .tc .vmem S1024x5632 .bf16)
    (arg7 : Memref sig .tc .vmem S512x128 .bf16) (harg7 : arg7.IsWhole) (arg8 : Memref sig .tc .vmem S512x128 .bf16) (harg8 : arg8.IsWhole)
    (arg9 : Memref sig .tc .vmem S512x128 .bf16) (harg9 : arg9.IsWhole) : Prog (TpuEff nD τ sig (Elt F) Λ₀ .tc) PUnit := do
  let ub : Vec F S512x5632 .bf16 ← Prog.lift (.load arg12 (Rect.unit (s := S512x5632) ![0, 0] S512x5632.size inb_S512x5632_S512x5632_0_0).toLoadRect (View.loadsAt_vmem h_S512x5632))
  let wb : Vec F S384x5632 .bf16 ← Prog.lift (.load arg13 (Rect.unit (s := S1024x5632) ![0, 0] S384x5632.size inb_S1024x5632_S384x5632_0_0).toLoadRect (View.loadsAt_vmem h_S384x5632))
  let _ : Vec F S512x128 .bf16 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0)
    (extractStridedSlice S512x128 ![0, 0] (tailDot ub wb) slices_S512x384_o0_0_S512x128 : FVec F S512x128 .bf16)
    Finset.univ (View.stores_vmem h_S512x128 (harg7.storeExact_slice rfl _ packedbf16_S512x128_S512x128_0_0) (fun _ => rfl)) (.inl rfl))
  let _ : Vec F S512x128 .bf16 ← Prog.lift (.load arg8 (Rect.unit (s := S512x128) ![0, 0] S512x128.size inb_S512x128_S512x128_0_0).toLoadRect (View.loadsAt_vmem h_S512x128))
  Prog.lift (.store arg8 (Rect.unit (s := S512x128) ![0, 0] S512x128.size inb_S512x128_S512x128_0_0)
    (extractStridedSlice S512x128 ![0, 128] (tailDot ub wb) slices_S512x384_o0_128_S512x128 : FVec F S512x128 .bf16)
    Finset.univ (View.stores_vmem h_S512x128 (harg8.storeExact_slice rfl _ packedbf16_S512x128_S512x128_0_0) (fun _ => rfl)) (.inl rfl))
  let _ : Vec F S512x128 .bf16 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0)
    (extractStridedSlice S512x128 ![0, 256] (tailDot ub wb) slices_S512x384_o0_256_S512x128 : FVec F S512x128 .bf16)
    Finset.univ (View.stores_vmem h_S512x128 (harg9.storeExact_slice rfl _ packedbf16_S512x128_S512x128_0_0) (fun _ => rfl)) (.inl rfl))
  pure ⟨⟩

/-- The scales a point of one of the first sixteen weight blocks reads are there. -/
def HS8 (i : grid0.Coords) : Prop := ∀ r < 8, ∀ g < 44, ∀ a, wsOff i r g a + S1x1.size a ≤ S131x44.size a

/-- The scales the last point of a row block reads are there. -/
def HS3 (i : grid0.Coords) : Prop := ∀ r < 3, ∀ g < 44, ∀ a, wsOff i r g a + S1x1.size a ≤ S131x44.size a

/-- The kernel's body as loops of its steps. -/
def bodyProg  (i : grid0.Coords) (arg2 : Memref sig .tc .vmem S512x5632 .bf16) (harg2 : arg2.IsWhole) (arg3 : Memref sig .tc .vmem S1024x5632 .fp8e4m3) (harg3 : arg3.IsWhole) (arg4 : Memref sig .tc .smem S131x44 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x5632 .fp8e4m3) (harg10 : arg10.IsWhole) (arg11 : Memref sig .tc .vmem S512x44 .f32) (harg11 : arg11.IsWhole) (arg12 : Memref sig .tc .vmem S512x5632 .bf16) (harg12 : arg12.IsWhole) (arg13 : Memref sig .tc .vmem S1024x5632 .bf16) (harg13 : arg13.IsWhole)
    (h2 : k0_cond2 i = 1#1 → HS8 i) (h3 : k0_cond3 i = 1#1 → HS8 i) (h4 : k0_cond4 i = 1#1 → HS3 i) :
    Prog (TpuEff nD τ sig (Elt F) Λ₀ .tc) PUnit := do
  if k0_h1 : k0_cond1 i = 1#1 then do
    qProg arg2 arg10 harg10 arg11 arg12 harg12
  else do
    pure ⟨⟩
  if k0_h2 : k0_cond2 i = 1#1 then do
    deqLoop i arg3 arg4 arg13 harg13 8 (by omega) (by omega) (h2 k0_h2) 352
    dotProg arg12 arg13 arg5 harg5
  else do
    pure ⟨⟩
  if k0_h3 : k0_cond3 i = 1#1 then do
    deqLoop i arg3 arg4 arg13 harg13 8 (by omega) (by omega) (h3 k0_h3) 352
    dotProg arg12 arg13 arg6 harg6
  else do
    pure ⟨⟩
  if k0_h4 : k0_cond4 i = 1#1 then do
    deqLoop i arg3 arg4 arg13 harg13 3 (by omega) (by omega) (h4 k0_h4) 132
    tailProg arg12 arg13 arg7 harg7 arg8 harg8 arg9 harg9
  else do
    pure ⟨⟩
  pure ⟨⟩

/-- The printed body is the loops. -/
theorem body_eq  (i : grid0.Coords) (arg2 : Memref sig .tc .vmem S512x5632 .bf16) (harg2 : arg2.IsWhole) (arg3 : Memref sig .tc .vmem S1024x5632 .fp8e4m3) (harg3 : arg3.IsWhole) (arg4 : Memref sig .tc .smem S131x44 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x5632 .fp8e4m3) (harg10 : arg10.IsWhole) (arg11 : Memref sig .tc .vmem S512x44 .f32) (harg11 : arg11.IsWhole) (arg12 : Memref sig .tc .vmem S512x5632 .bf16) (harg12 : arg12.IsWhole) (arg13 : Memref sig .tc .vmem S1024x5632 .bf16) (harg13 : arg13.IsWhole)
    (h2 : k0_cond2 i = 1#1 → HS8 i) (h3 : k0_cond3 i = 1#1 → HS8 i) (h4 : k0_cond4 i = 1#1 → HS3 i) :
    (cc0_in_proj i arg2 harg2 arg3 harg3 arg4 harg4 arg5 harg5 arg6 harg6 arg7 harg7 arg8 harg8 arg9 harg9 arg10 harg10 arg11 harg11 arg12 harg12 arg13 harg13 : Prog (TpuEff nD τ sig (Elt F) Λ₀ .tc) PUnit)
      = bodyProg i arg2 harg2 arg3 harg3 arg4 harg4 arg5 harg5 arg6 harg6 arg7 harg7 arg8 harg8 arg9 harg9 arg10 harg10 arg11 harg11 arg12 harg12 arg13 harg13 h2 h3 h4 := by
  chain_rfl

end Cert.InProj

end
-- ==== Proof.Run.lean ====
/- What each step of the kernel's loops does to the buffers it reads and writes. -/
module

public import proofs.«01_k».proof.Proof.Steps
public import Idealize.ShloMosaic.Lib.Pipeline.FrameBody
public import Idealize.ShloMosaic.Lib.Exec
public import Idealize.ShloMosaic.Lib.VecWindow
public import Idealize.ShloMosaic.Lib.ValueIdxCore
public import Idealize.ShloMosaic.Lib.Pipeline.Value
public import Idealize.ShloMosaic.Lib.Ring
public import Idealize.ShloMosaic.Lib.Tactic

@[expose] public section

noncomputable section

namespace Cert.InProj

open Idealize.ShloMosaic Idealize.ShloMosaic.TcCoe Idealize.ShloMosaic.Tactic Cert.KernelIdeal
open Cert.KernelIdeal.Facts Cert.KernelIdeal.K0.Facts₀ Cert.KernelIdeal.Shapes1.Facts₀
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx

variable {F : FTy → Type} [FloatOps F] [Facts]

local notation "𝕄" => MT nD τ sig Unit (Elt F) ℕ (UR sig nD τ) ℕ

/-! ## Scaling the weights -/

/-- Where the scale of tile `(r, g)` lies, as numbers. -/
theorem wsOff_eq (i : grid0.Coords) {r : Nat} (hr : r < 8) (g : Nat) : wsOff i r g = ![8 * (i 1).val + r, g] := by
  have h : ∀ (a : Fin 17) (b : Fin 8), (Scalar.indexCast (Scalar.addi (Scalar.muli (BitVec.ofNat 32 a.val) 8#32) (BitVec.ofNat 32 b.val))).toNat
      = 8 * a.val + b.val := by decide +kernel
  have := h (i 1) ⟨r, hr⟩
  unfold wsOff
  rw [this]

theorem hs8 {i : grid0.Coords} (h : (i 1).val < 16) : HS8 i := fun r hr g hg a => by
  rw [wsOff_eq i hr]
  match a with
  | ⟨0, _⟩ => show 8 * (i 1).val + r + 1 ≤ 131; omega
  | ⟨1, _⟩ => show g + 1 ≤ 44; omega

theorem hs3 {i : grid0.Coords} : HS3 i := fun r hr g hg a => by
  have h17 : (i 1).val < 17 := (i 1).isLt
  rw [wsOff_eq i (by omega)]
  match a with
  | ⟨0, _⟩ => show 8 * (i 1).val + r + 1 ≤ 131; omega
  | ⟨1, _⟩ => show g + 1 ≤ 44; omega

/-- The scale of tile `(r, g)` of weight block `j`. -/
def wsAt (X4 : Vec F S131x44 .f32) (j r g : Nat) : Elt F .f32 :=
  X4 (ix2 ⟨min (8 * j + r) 130, by omega⟩ ⟨min g 43, by omega⟩)

/-- One weight times its scale. -/
def wEl (s : Elt F .f32) (w : Elt F .fp8e4m3) : Elt F .bf16 :=
  FloatOps.mulf (FloatOps.extf .bf16 bitsLt_fp8e4m3_bf16 w) (FloatOps.truncf .bf16 bitsLt_bf16_f32 s)

theorem deqPay_apply (s : Elt F .f32) (w : Vec F S128x128 .fp8e4m3) (l : S128x128.Idx) : deqPay s w l = wEl s (w l) := by
  unfold deqPay
  rw [shapeCast_self]
  rfl

/-- The scaled weights of block `j`. -/
def wAll (j : Nat) (X3 : Vec F S1024x5632 .fp8e4m3) (X4 : Vec F S131x44 .f32) : Vec F S1024x5632 .bf16 :=
  fun y => wEl (wsAt X4 j ((y 0).val / 128) ((y 1).val / 128)) (X3 y)

theorem deqStep_wp (c : Dev nD) (E : Set ℕ) (i : grid0.Coords) (arg3 : Memref sig .tc .vmem S1024x5632 .fp8e4m3) (arg4 : Memref sig .tc .smem S131x44 .f32)
    (arg13 : Memref sig .tc .vmem S1024x5632 .bf16) (harg13 : arg13.IsWhole) (r g : Nat) (hr : r < 8) (hg : g < 44)
    (hs : ∀ a, wsOff i r g a + S1x1.size a ≤ S131x44.size a)
    (X3 : Vec F S1024x5632 .fp8e4m3) (X4 : Vec F S131x44 .f32) (W : Vec F S1024x5632 .bf16) (K : PUnit → sProp 𝕄) :
    iprop(owns (c : Thread nD τ) arg3 fullShare X3 ∗ owns (c : Thread nD τ) arg4 fullShare X4 ∗ owns (c : Thread nD τ) arg13 fullShare W
        ∗ (iprop(owns (c : Thread nD τ) arg3 fullShare X3 ∗ owns (c : Thread nD τ) arg4 fullShare X4
            ∗ owns (c : Thread nD τ) arg13 fullShare (put W ![128 * r, 128 * g] S128x128.size
                (deqPay (wsAt X4 (i 1).val r g) (window X3 ![128 * r, 128 * g] S128x128.size (inbW hr hg))))) -∗ K ⟨⟩))
      ⊢ wp frame (wpE (defs₀ (F := F)) Variants.none c none) E (deqStep i arg3 arg4 arg13 harg13 r g hr hg hs) K := by
  unfold owns deqStep
  iintro ⟨⟨%f3, %h3, H3⟩, ⟨%f4, %h4, H4⟩, ⟨%f13, %h13, H13⟩, Hk⟩
  subst h3 h4 h13
  sl_exec
  sl_step
  iapply Hk
  isplitl [H3]
  · iexists f3; isplitr; · ipureintro; rfl
    iexact H3
  isplitl [H4]
  · iexists f4; isplitr; · ipureintro; rfl
    iexact H4
  iexists _; isplitr
  swap; · iexact H13
  ipureintro
  rw [View.read_writes_cons_put _ _ _ _ _ rfl]
  have e : deqStep_wp.sl.r c i arg4 r g hs f4 = wsAt (arg4.view.read (Elt F) f4) (i 1).val r g := by
    show arg4.view.read (Elt F) f4 _ = arg4.view.read (Elt F) f4 _
    congr 1
    have h0 := hs 0
    have e0 : wsOff i r g 0 = 8 * (i 1).val + r := by rw [wsOff_eq i hr]; rfl
    have e1 : wsOff i r g 1 = g := by rw [wsOff_eq i hr]; rfl
    rw [e0] at h0
    have h0 : 8 * (i 1).val + r + 1 ≤ 131 := h0
    funext a
    apply Fin.ext
    match a with
    | ⟨0, _⟩ => show wsOff i r g 0 + 1 * 0 = min (8 * (i 1).val + r) 130; rw [e0]; omega
    | ⟨1, _⟩ => show wsOff i r g 1 + 1 * 0 = min g 43; rw [e1]; omega
  rw [e]
  rfl

/-- The tile an index lies in, by its number in the loop's order. -/
def tileNo (y : S1024x5632.Idx) : Nat := (y 0).val / 128 * 44 + (y 1).val / 128

/-- A step scales its tile and keeps the tiles before it. -/
theorem tile_inv {j k : Nat} (hr : k / 44 < 8) (hg : k % 44 < 44) {X3 : Vec F S1024x5632 .fp8e4m3} {X4 : Vec F S131x44 .f32}
    (W : Vec F S1024x5632 .bf16) (hW : ∀ y, tileNo y < k → W y = wAll j X3 X4 y) (y : S1024x5632.Idx) (hy : tileNo y < k + 1) :
    put W ![128 * (k / 44), 128 * (k % 44)] S128x128.size
      (deqPay (wsAt X4 j (k / 44) (k % 44)) (window X3 ![128 * (k / 44), 128 * (k % 44)] S128x128.size (inbW hr hg))) y = wAll j X3 X4 y := by
  unfold put
  split
  · next h =>
    have h0 := h 0; have h1 := h 1
    have h0 : 128 * (k / 44) ≤ (y 0).val ∧ (y 0).val < 128 * (k / 44) + 128 := h0
    have h1 : 128 * (k % 44) ≤ (y 1).val ∧ (y 1).val < 128 * (k % 44) + 128 := h1
    refine (deqPay_apply _ _ _).trans ?_
    unfold wAll
    rw [show (y 0).val / 128 = k / 44 by omega, show (y 1).val / 128 = k % 44 by omega]
    congr 1
    unfold window
    congr 1
    funext a
    apply Fin.ext
    match a with
    | ⟨0, _⟩ => show 128 * (k / 44) + 1 * ((y 0).val - 128 * (k / 44)) = (y 0).val; omega
    | ⟨1, _⟩ => show 128 * (k % 44) + 1 * ((y 1).val - 128 * (k % 44)) = (y 1).val; omega
  · next h =>
    apply hW
    have hne : tileNo y ≠ k := by
      intro e
      apply h
      unfold tileNo at e
      have h44 : (y 1).val < 5632 := (y 1).isLt
      intro a
      match a with
      | ⟨0, _⟩ => show 128 * (k / 44) ≤ (y 0).val ∧ (y 0).val < 128 * (k / 44) + 128; omega
      | ⟨1, _⟩ => show 128 * (k % 44) ≤ (y 1).val ∧ (y 1).val < 128 * (k % 44) + 128; omega
    omega

/-- The loop leaves the first `R` rows of tiles scaled. -/
theorem deqLoop_wp (c : Dev nD) (E : Set ℕ) (i : grid0.Coords) (arg3 : Memref sig .tc .vmem S1024x5632 .fp8e4m3) (arg4 : Memref sig .tc .smem S131x44 .f32)
    (arg13 : Memref sig .tc .vmem S1024x5632 .bf16) (harg13 : arg13.IsWhole) (R : Nat) (hR : R ≤ 8) (hR0 : 0 < R)
    (hs : ∀ r < R, ∀ g < 44, ∀ a, wsOff i r g a + S1x1.size a ≤ S131x44.size a)
    (X3 : Vec F S1024x5632 .fp8e4m3) (X4 : Vec F S131x44 .f32) (K : PUnit → sProp 𝕄) (n : Nat) (hn : n ≤ R * 44)
    (W : Vec F S1024x5632 .bf16) (hW : ∀ y, tileNo y < R * 44 - n → W y = wAll (i 1).val X3 X4 y) :
    iprop(owns (c : Thread nD τ) arg3 fullShare X3 ∗ owns (c : Thread nD τ) arg4 fullShare X4 ∗ owns (c : Thread nD τ) arg13 fullShare W
        ∗ (iprop(∃ W' : Vec F S1024x5632 .bf16, ⌜∀ y, tileNo y < R * 44 → W' y = wAll (i 1).val X3 X4 y⌝
            ∗ owns (c : Thread nD τ) arg3 fullShare X3 ∗ owns (c : Thread nD τ) arg4 fullShare X4
            ∗ owns (c : Thread nD τ) arg13 fullShare W') -∗ K ⟨⟩))
      ⊢ wp frame (wpE (defs₀ (F := F)) Variants.none c none) E (deqLoop i arg3 arg4 arg13 harg13 R hR hR0 hs n) K := by
  induction n generalizing W with
  | zero =>
    show _ ⊢ wp _ _ _ (pure ⟨⟩) K
    rw [wp_pure]
    iintro ⟨H3, H4, H13, Hk⟩
    imodintro
    iapply Hk
    iexists W; isplitr; · ipureintro; exact hW
    isplitl [H3]; · iexact H3
    isplitl [H4]; · iexact H4
    iexact H13
  | succ n ih =>
    show _ ⊢ wp _ _ _ (deqStep i arg3 arg4 arg13 harg13 ((R * 44 - 1 - n) / 44) ((R * 44 - 1 - n) % 44) _ _ _ >>= fun _ => deqLoop i arg3 arg4 arg13 harg13 R hR hR0 hs n) K
    rw [wp_bind]
    have hr : (R * 44 - 1 - n) / 44 < 8 := by omega
    have hg : (R * 44 - 1 - n) % 44 < 44 := by omega
    have hW' : ∀ y, tileNo y < R * 44 - 1 - n → W y = wAll (i 1).val X3 X4 y := fun y hy => hW y (by omega)
    iintro ⟨H3, H4, H13, Hk⟩
    iapply (deqStep_wp c E i arg3 arg4 arg13 harg13 ((R * 44 - 1 - n) / 44) ((R * 44 - 1 - n) % 44) hr hg (hs _ (by omega) _ hg) X3 X4 W _)
    isplitl [H3]; · iexact H3
    isplitl [H4]; · iexact H4
    isplitl [H13]; · iexact H13
    iintro ⟨H3, H4, H13⟩
    iapply (ih (by omega) _ (fun y hy => tile_inv hr hg W hW' y (by omega)))
    isplitl [H3]; · iexact H3
    isplitl [H4]; · iexact H4
    isplitl [H13]; · iexact H13
    iexact Hk

/-! ## The quantiser -/

/-- Group `g` of a row block. -/
def grp (X2 : Vec F S512x5632 .bf16) (g : Nat) : Vec F S512x128 .bf16 :=
  fun l => X2 (ix2 ⟨(l 0).val, (l 0).isLt⟩ ⟨min (128 * g + (l 1).val) 5631, by omega⟩)

theorem window_grp (X2 : Vec F S512x5632 .bf16) {g : Nat} (hg : g < 44) : window X2 ![0, 128 * g] S512x128.size (inbU hg) = grp X2 g := by
  funext l
  unfold window grp
  congr 1
  have h1 : (l 1).val < 128 := (l 1).isLt
  funext a
  apply Fin.ext
  match a with
  | ⟨0, _⟩ => show 0 + 1 * (l 0).val = (l 0).val; omega
  | ⟨1, _⟩ => show 128 * g + 1 * (l 1).val = min (128 * g + (l 1).val) 5631; omega

/-- The whole row block's codes. -/
def cAll (X2 : Vec F S512x5632 .bf16) : Vec F S512x5632 .fp8e4m3 :=
  fun y => qCodes (grp X2 ((y 1).val / 128)) (ix2 ⟨(y 0).val, (y 0).isLt⟩ ⟨(y 1).val % 128, Nat.mod_lt _ (by decide)⟩)

/-- The whole row block's codes scaled back. -/
def uAll (X2 : Vec F S512x5632 .bf16) : Vec F S512x5632 .bf16 :=
  fun y => qDeq (grp X2 ((y 1).val / 128)) (ix2 ⟨(y 0).val, (y 0).isLt⟩ ⟨(y 1).val % 128, Nat.mod_lt _ (by decide)⟩)

/-- The whole row block's scales. -/
def sAll (X2 : Vec F S512x5632 .bf16) : Vec F S512x44 .f32 :=
  fun y => qScale (grp X2 (y 1).val) (ix2 ⟨(y 0).val, (y 0).isLt⟩ (0 : Fin 1))

theorem qStep_wp (c : Dev nD) (E : Set ℕ) (arg2 : Memref sig .tc .vmem S512x5632 .bf16) (arg10 : Memref sig .tc .vmem S512x5632 .fp8e4m3) (harg10 : arg10.IsWhole)
    (arg12 : Memref sig .tc .vmem S512x5632 .bf16) (harg12 : arg12.IsWhole) (g : Nat) (hg : g < 44) (acc : FVec F S512x44 .f32)
    (X2 : Vec F S512x5632 .bf16) (C : Vec F S512x5632 .fp8e4m3) (U : Vec F S512x5632 .bf16) (K : FVec F S512x44 .f32 → sProp 𝕄) :
    iprop(owns (c : Thread nD τ) arg2 fullShare X2 ∗ owns (c : Thread nD τ) arg10 fullShare C ∗ owns (c : Thread nD τ) arg12 fullShare U
        ∗ (iprop(owns (c : Thread nD τ) arg2 fullShare X2
            ∗ owns (c : Thread nD τ) arg10 fullShare (put C ![0, 128 * g] S512x128.size (qCodes (grp X2 g)))
            ∗ owns (c : Thread nD τ) arg12 fullShare (put U ![0, 128 * g] S512x128.size (qDeq (grp X2 g)))) -∗ K (qAcc g (grp X2 g) acc)))
      ⊢ wp frame (wpE (defs₀ (F := F)) Variants.none c none) E (qStep arg2 arg10 harg10 arg12 harg12 g hg acc) K := by
  rw [← window_grp X2 hg]
  unfold owns qStep
  iintro ⟨⟨%f2, %h2, H2⟩, ⟨%f10, %h10, H10⟩, ⟨%f12, %h12, H12⟩, Hk⟩
  subst h2 h10 h12
  sl_exec
  sl_step
  rw [View.readAt_unit _ _ _ rfl (inbU hg)]
  iapply Hk
  isplitl [H2]
  · iexists f2; isplitr; · ipureintro; rfl
    iexact H2
  isplitl [H10]
  · iexists _; isplitr
    swap; · iexact H10
    ipureintro
    rw [View.read_writes_cons_put _ _ _ _ _ rfl]; rfl
  iexists _; isplitr
  swap; · iexact H12
  ipureintro
  rw [View.read_writes_cons_put _ _ _ _ _ rfl]; rfl

/-- A step's column of scales, the columns before it kept. -/
theorem qAcc_inv {g : Nat} (hg : g < 44) (X2 : Vec F S512x5632 .bf16) (acc : FVec F S512x44 .f32)
    (h : ∀ y : S512x44.Idx, (y 1).val < g → acc y = sAll X2 y) (y : S512x44.Idx) (hy : (y 1).val < g + 1) :
    qAcc g (grp X2 g) acc y = sAll X2 y := by
  unfold qAcc
  rw [shapeCast_self, select_apply]
  have hi : cmpi .eq (iota .tc S512x44 32 [1] iota_S512x44_d1_w32) (broadcast S512x44 (BitVec.ofNat 32 g)) y
      = BitVec.ofBool (decide ((y 1).val = g)) := by
    have hy44 : (y 1).val < 44 := (y 1).isLt
    show IntOp.cmpi .eq (iota .tc S512x44 32 [1] iota_S512x44_d1_w32 y) (BitVec.ofNat 32 g) = _
    rw [show iota .tc S512x44 32 [1] iota_S512x44_d1_w32 y = BitVec.ofNat 32 (y 1).val from iota_single_apply _ _ _ _ _ _]
    by_cases e : (y 1).val = g
    · rw [e]; simp [IntOp.cmpi]
    · have : ¬ (BitVec.ofNat 32 (y 1).val = BitVec.ofNat 32 g) := fun h => by
        have := congrArg BitVec.toNat h
        rw [BitVec.toNat_ofNat, BitVec.toNat_ofNat, Nat.mod_eq_of_lt (by omega), Nat.mod_eq_of_lt (by omega)] at this
        exact e this
      show BitVec.ofBool (BitVec.ofNat 32 (y 1).val == BitVec.ofNat 32 g) = _
      rw [beq_false_of_ne this, decide_eq_false e]
  rw [hi]
  by_cases e : (y 1).val = g
  · rw [decide_eq_true e]
    show broadcastTo S512x44 (qScale (grp X2 g)) broadcasts_S512x1_S512x44 y = _
    rw [broadcastTo_apply (qScale (grp X2 g)) broadcasts_S512x1_S512x44 y (ix2 ⟨(y 0).val, (y 0).isLt⟩ (0 : Fin 1)) (fun a => by
      match a with
      | ⟨0, _⟩ => rfl
      | ⟨1, _⟩ => rfl)]
    unfold sAll; rw [e]
  · rw [decide_eq_false e]
    exact h y (by omega)

/-- A step writes its group's columns and keeps the ones before it. -/
theorem col_inv {α : Type} {g : Nat} (hg : g < 44) (G : Nat → S512x128.Idx → α) (C : S512x5632.Idx → α)
    (h : ∀ y : S512x5632.Idx, (y 1).val < 128 * g → C y = G ((y 1).val / 128) (ix2 ⟨(y 0).val, (y 0).isLt⟩ ⟨(y 1).val % 128, Nat.mod_lt _ (by decide)⟩))
    (y : S512x5632.Idx) (hy : (y 1).val < 128 * (g + 1)) :
    put C ![0, 128 * g] S512x128.size (G g) y = G ((y 1).val / 128) (ix2 ⟨(y 0).val, (y 0).isLt⟩ ⟨(y 1).val % 128, Nat.mod_lt _ (by decide)⟩) := by
  unfold put
  split
  · next hh =>
    have h1 : 128 * g ≤ (y 1).val ∧ (y 1).val < 128 * g + 128 := hh 1
    rw [show (y 1).val / 128 = g by omega]
    congr 1
    funext a
    apply Fin.ext
    match a with
    | ⟨0, _⟩ => show (y 0).val - 0 = (y 0).val; omega
    | ⟨1, _⟩ => show (y 1).val - 128 * g = (y 1).val % 128; omega
  · next hh =>
    apply h
    by_contra hc
    apply hh
    intro a
    have h512 : (y 0).val < 512 := (y 0).isLt
    match a with
    | ⟨0, _⟩ => show 0 ≤ (y 0).val ∧ (y 0).val < 0 + 512; omega
    | ⟨1, _⟩ => show 128 * g ≤ (y 1).val ∧ (y 1).val < 128 * g + 128; omega

/-- The quantiser's loop leaves every group coded, scaled back, and its scale gathered. -/
theorem qLoop_wp (c : Dev nD) (E : Set ℕ) (arg2 : Memref sig .tc .vmem S512x5632 .bf16) (arg10 : Memref sig .tc .vmem S512x5632 .fp8e4m3) (harg10 : arg10.IsWhole)
    (arg12 : Memref sig .tc .vmem S512x5632 .bf16) (harg12 : arg12.IsWhole)
    (X2 : Vec F S512x5632 .bf16) (K : FVec F S512x44 .f32 → sProp 𝕄) (n : Nat) (hn : n ≤ 44)
    (C : Vec F S512x5632 .fp8e4m3) (U : Vec F S512x5632 .bf16) (acc : FVec F S512x44 .f32)
    (hC : ∀ y : S512x5632.Idx, (y 1).val < 128 * (44 - n) → C y = cAll X2 y)
    (hU : ∀ y : S512x5632.Idx, (y 1).val < 128 * (44 - n) → U y = uAll X2 y)
    (ha : ∀ y : S512x44.Idx, (y 1).val < 44 - n → acc y = sAll X2 y) :
    iprop(owns (c : Thread nD τ) arg2 fullShare X2 ∗ owns (c : Thread nD τ) arg10 fullShare C ∗ owns (c : Thread nD τ) arg12 fullShare U
        ∗ (iprop(owns (c : Thread nD τ) arg2 fullShare X2
            ∗ owns (c : Thread nD τ) arg10 fullShare (cAll X2)
            ∗ owns (c : Thread nD τ) arg12 fullShare (uAll X2)) -∗ K (sAll X2)))
      ⊢ wp frame (wpE (defs₀ (F := F)) Variants.none c none) E (qLoop arg2 arg10 harg10 arg12 harg12 n acc) K := by
  induction n generalizing C U acc with
  | zero =>
    show _ ⊢ wp _ _ _ (pure acc) K
    have eC : C = cAll X2 := funext fun y => hC y (y 1).isLt
    have eU : U = uAll X2 := funext fun y => hU y (y 1).isLt
    have ea : acc = sAll X2 := funext fun y => ha y (y 1).isLt
    subst eC eU ea
    rw [wp_pure]
    iintro ⟨H2, H10, H12, Hk⟩
    imodintro
    iapply Hk
    isplitl [H2]; · iexact H2
    isplitl [H10]; · iexact H10
    iexact H12
  | succ n ih =>
    show _ ⊢ wp _ _ _ (qStep arg2 arg10 harg10 arg12 harg12 (44 - 1 - n) _ acc >>= fun acc => qLoop arg2 arg10 harg10 arg12 harg12 n acc) K
    rw [wp_bind]
    have hg : 44 - 1 - n < 44 := by omega
    have e : 44 - n = 44 - 1 - n + 1 := by omega
    have e' : 44 - (n + 1) = 44 - 1 - n := by omega
    rw [e'] at hC hU ha
    iintro ⟨H2, H10, H12, Hk⟩
    iapply (qStep_wp c E arg2 arg10 harg10 arg12 harg12 (44 - 1 - n) hg acc X2 C U _)
    isplitl [H2]; · iexact H2
    isplitl [H10]; · iexact H10
    isplitl [H12]; · iexact H12
    iintro ⟨H2, H10, H12⟩
    iapply (ih (by omega) _ _ _ (by rw [e]; exact col_inv hg (fun g => qCodes (grp X2 g)) C hC)
      (by rw [e]; exact col_inv hg (fun g => qDeq (grp X2 g)) U hU) (by rw [e]; exact qAcc_inv hg X2 acc ha))
    isplitl [H2]; · iexact H2
    isplitl [H10]; · iexact H10
    isplitl [H12]; · iexact H12
    iexact Hk

/-- The quantiser leaves the row block's codes, scales and scaled-back codes. -/
theorem qProg_wp (c : Dev nD) (E : Set ℕ) (arg2 : Memref sig .tc .vmem S512x5632 .bf16) (arg10 : Memref sig .tc .vmem S512x5632 .fp8e4m3) (harg10 : arg10.IsWhole)
    (arg11 : Memref sig .tc .vmem S512x44 .f32) (arg12 : Memref sig .tc .vmem S512x5632 .bf16) (harg12 : arg12.IsWhole)
    (X2 : Vec F S512x5632 .bf16) (C : Vec F S512x5632 .fp8e4m3) (S : Vec F S512x44 .f32) (U : Vec F S512x5632 .bf16) (K : PUnit → sProp 𝕄) :
    iprop(owns (c : Thread nD τ) arg2 fullShare X2 ∗ owns (c : Thread nD τ) arg10 fullShare C ∗ owns (c : Thread nD τ) arg11 fullShare S
        ∗ owns (c : Thread nD τ) arg12 fullShare U
        ∗ (iprop(owns (c : Thread nD τ) arg2 fullShare X2 ∗ owns (c : Thread nD τ) arg10 fullShare (cAll X2)
            ∗ owns (c : Thread nD τ) arg11 fullShare (sAll X2) ∗ owns (c : Thread nD τ) arg12 fullShare (uAll X2)) -∗ K ⟨⟩))
      ⊢ wp frame (wpE (defs₀ (F := F)) Variants.none c none) E (qProg arg2 arg10 harg10 arg11 arg12 harg12) K := by
  unfold qProg
  rw [wp_bind]
  iintro ⟨H2, H10, H11, H12, Hk⟩
  iapply (qLoop_wp c E arg2 arg10 harg10 arg12 harg12 X2 _ 44 (Nat.le_refl _) C U _ (fun y h => absurd h (Nat.not_lt_zero _))
    (fun y h => absurd h (Nat.not_lt_zero _)) (fun y h => absurd h (Nat.not_lt_zero _)))
  isplitl [H2]; · iexact H2
  isplitl [H10]; · iexact H10
  isplitl [H12]; · iexact H12
  iintro ⟨H2, H10, H12⟩
  unfold owns
  icases H11 with ⟨%f11, %h11, H11⟩
  sl_exec
  sl_step
  iapply Hk
  isplitl [H2]; · iexact H2
  isplitl [H10]; · iexact H10
  isplitl [H11]
  · iexists _; isplitr
    swap; · iexact H11
    ipureintro
    exact View.read_writes_full _ _ _ _ _
  iexact H12

/-! ## The products -/

/-- What the product of a row block and a weight block leaves. -/
def zOut (U : Vec F S512x5632 .bf16) (W : Vec F S1024x5632 .bf16) : Vec F S512x1024 .bf16 :=
  (truncf .bf16 (matmul dot_S512x5632_S1024x5632_S512x1024_1_1_0_0_n_n none U W (constant S512x1024 .f32 0x00000000#32)) bitsLt_bf16_f32 : FVec F S512x1024 .bf16)

theorem dotProg_wp (c : Dev nD) (E : Set ℕ) (arg12 : Memref sig .tc .vmem S512x5632 .bf16) (arg13 : Memref sig .tc .vmem S1024x5632 .bf16)
    (argz : Memref sig .tc .vmem S512x1024 .bf16) (hargz : argz.IsWhole)
    (U : Vec F S512x5632 .bf16) (W : Vec F S1024x5632 .bf16) (Z : Vec F S512x1024 .bf16) (K : PUnit → sProp 𝕄) :
    iprop(owns (c : Thread nD τ) arg12 fullShare U ∗ owns (c : Thread nD τ) arg13 fullShare W ∗ owns (c : Thread nD τ) argz fullShare Z
        ∗ (iprop(owns (c : Thread nD τ) arg12 fullShare U ∗ owns (c : Thread nD τ) arg13 fullShare W
            ∗ owns (c : Thread nD τ) argz fullShare (zOut U W)) -∗ K ⟨⟩))
      ⊢ wp frame (wpE (defs₀ (F := F)) Variants.none c none) E (dotProg arg12 arg13 argz hargz) K := by
  unfold owns dotProg
  iintro ⟨⟨%f12, %h12, H12⟩, ⟨%f13, %h13, H13⟩, ⟨%fz, %hz, Hz⟩, Hk⟩
  subst h12 h13 hz
  sl_exec
  sl_step
  iapply Hk
  isplitl [H12]
  · iexists f12; isplitr; · ipureintro; rfl
    iexact H12
  isplitl [H13]
  · iexists f13; isplitr; · ipureintro; rfl
    iexact H13
  iexists _; isplitr
  swap; · iexact Hz
  ipureintro
  refine (View.read_writes_full _ _ _ _ _).trans ?_
  unfold zOut
  rw [View.readAt_full, View.readAt_full]

/-- The first 384 rows of a weight block. -/
def top (W : Vec F S1024x5632 .bf16) : Vec F S384x5632 .bf16 := window W ![0, 0] S384x5632.size inb_S1024x5632_S384x5632_0_0

theorem tailProg_wp (c : Dev nD) (E : Set ℕ) (arg12 : Memref sig .tc .vmem S512x5632 .bf16) (arg13 : Memref sig .tc .vmem S1024x5632 .bf16)
    (arg7 : Memref sig .tc .vmem S512x128 .bf16) (harg7 : arg7.IsWhole) (arg8 : Memref sig .tc .vmem S512x128 .bf16) (harg8 : arg8.IsWhole)
    (arg9 : Memref sig .tc .vmem S512x128 .bf16) (harg9 : arg9.IsWhole)
    (U : Vec F S512x5632 .bf16) (W : Vec F S1024x5632 .bf16) (Z7 Z8 Z9 : Vec F S512x128 .bf16) (K : PUnit → sProp 𝕄) :
    iprop(owns (c : Thread nD τ) arg12 fullShare U ∗ owns (c : Thread nD τ) arg13 fullShare W ∗ owns (c : Thread nD τ) arg7 fullShare Z7
        ∗ owns (c : Thread nD τ) arg8 fullShare Z8 ∗ owns (c : Thread nD τ) arg9 fullShare Z9
        ∗ (iprop(owns (c : Thread nD τ) arg12 fullShare U ∗ owns (c : Thread nD τ) arg13 fullShare W
            ∗ owns (c : Thread nD τ) arg7 fullShare (extractStridedSlice S512x128 ![0, 0] (tailDot U (top W)) slices_S512x384_o0_0_S512x128 : FVec F S512x128 .bf16)
            ∗ owns (c : Thread nD τ) arg8 fullShare (extractStridedSlice S512x128 ![0, 128] (tailDot U (top W)) slices_S512x384_o0_128_S512x128 : FVec F S512x128 .bf16)
            ∗ owns (c : Thread nD τ) arg9 fullShare (extractStridedSlice S512x128 ![0, 256] (tailDot U (top W)) slices_S512x384_o0_256_S512x128 : FVec F S512x128 .bf16)) -∗ K ⟨⟩))
      ⊢ wp frame (wpE (defs₀ (F := F)) Variants.none c none) E (tailProg arg12 arg13 arg7 harg7 arg8 harg8 arg9 harg9) K := by
  unfold owns tailProg
  iintro ⟨⟨%f12, %h12, H12⟩, ⟨%f13, %h13, H13⟩, ⟨%f7, %h7, H7⟩, ⟨%f8, %h8, H8⟩, ⟨%f9, %h9, H9⟩, Hk⟩
  subst h12 h13 h7 h8 h9
  sl_exec
  sl_step
  iapply Hk
  isplitl [H12]
  · iexists f12; isplitr; · ipureintro; rfl
    iexact H12
  isplitl [H13]
  · iexists f13; isplitr; · ipureintro; rfl
    iexact H13
  isplitl [H7]
  · iexists _; isplitr
    swap; · iexact H7
    ipureintro
    refine (View.read_writes_full _ _ _ _ _).trans ?_
    rw [View.readAt_full]; rfl
  isplitl [H8]
  · iexists _; isplitr
    swap; · iexact H8
    ipureintro
    refine (View.read_writes_full _ _ _ _ _).trans ?_
    rw [View.readAt_full]; rfl
  iexists _; isplitr
  swap; · iexact H9
  ipureintro
  refine (View.read_writes_full _ _ _ _ _).trans ?_
  rw [View.readAt_full]; rfl

end Cert.InProj
end
-- ==== Proof.Body.lean ====
/- What one run of the kernel's body does to the buffers it is given. -/
module

public import proofs.«01_k».proof.Proof.Run

@[expose] public section

noncomputable section

namespace Cert.InProj

open Idealize.ShloMosaic Idealize.ShloMosaic.TcCoe Idealize.ShloMosaic.Tactic Cert.KernelIdeal
open Cert.KernelIdeal.Facts Cert.KernelIdeal.K0.Facts₀ Cert.KernelIdeal.Shapes1.Facts₀
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx

variable {F : FTy → Type} [FloatOps F] [Facts]

local notation "𝕄" => MT nD τ sig Unit (Elt F) ℕ (UR sig nD τ) ℕ

/-! ## The conditions of the body's four parts -/

theorem cond1_iff (i : grid0.Coords) : k0_cond1 i = 1#1 ↔ (i 1).val = 0 := by
  have h : ∀ a : Fin 17, (Scalar.cmpi .ne (Scalar.extui (Scalar.cmpi .eq (BitVec.ofNat 32 a.val) 0#32) : BitVec 32) 0#32 = 1#1) ↔ a.val = 0 := by decide +kernel
  exact h (i 1)

theorem cond2_iff (i : grid0.Coords) : k0_cond2 i = 1#1 ↔ (i 1).val < 8 := by
  have h : ∀ a : Fin 17, (Scalar.cmpi .ne (Scalar.extui (Scalar.cmpi .slt (BitVec.ofNat 32 a.val) 8#32) : BitVec 32) 0#32 = 1#1) ↔ a.val < 8 := by decide +kernel
  exact h (i 1)

theorem cond3_iff (i : grid0.Coords) : k0_cond3 i = 1#1 ↔ 8 ≤ (i 1).val ∧ (i 1).val < 16 := by
  have h : ∀ a : Fin 17, (Scalar.cmpi .ne (Scalar.extui (Scalar.andi (Scalar.cmpi .sge (BitVec.ofNat 32 a.val) 8#32) (Scalar.cmpi .slt (BitVec.ofNat 32 a.val) 16#32)) : BitVec 32) 0#32 = 1#1) ↔ 8 ≤ a.val ∧ a.val < 16 := by decide +kernel
  exact h (i 1)

theorem cond4_iff (i : grid0.Coords) : k0_cond4 i = 1#1 ↔ (i 1).val = 16 := by
  have h : ∀ a : Fin 17, (Scalar.cmpi .ne (Scalar.extui (Scalar.cmpi .eq (BitVec.ofNat 32 a.val) 16#32) : BitVec 32) 0#32 = 1#1) ↔ a.val = 16 := by decide +kernel
  exact h (i 1)

/-! ## The four parts -/

/-- The three parts of the last product. -/
def partB (T : FVec F S512x384 .bf16) : Vec F S512x128 .bf16 := (extractStridedSlice S512x128 ![0, 0] T slices_S512x384_o0_0_S512x128 : FVec F S512x128 .bf16)
def partC (T : FVec F S512x384 .bf16) : Vec F S512x128 .bf16 := (extractStridedSlice S512x128 ![0, 128] T slices_S512x384_o0_128_S512x128 : FVec F S512x128 .bf16)
def partD (T : FVec F S512x384 .bf16) : Vec F S512x128 .bf16 := (extractStridedSlice S512x128 ![0, 256] T slices_S512x384_o0_256_S512x128 : FVec F S512x128 .bf16)

/-- The first part quantises the row block at the row block's first point, and leaves the buffers alone elsewhere. -/
theorem qBlk_wp (c : Dev nD) (E : Set ℕ) (p : Prop) [Decidable p] (arg2 : Memref sig .tc .vmem S512x5632 .bf16) (arg10 : Memref sig .tc .vmem S512x5632 .fp8e4m3) (harg10 : arg10.IsWhole)
    (arg11 : Memref sig .tc .vmem S512x44 .f32) (arg12 : Memref sig .tc .vmem S512x5632 .bf16) (harg12 : arg12.IsWhole)
    (X2 : Vec F S512x5632 .bf16) (C : Vec F S512x5632 .fp8e4m3) (S : Vec F S512x44 .f32) (U : Vec F S512x5632 .bf16) (hU : ¬ p → U = uAll X2) (K : PUnit → sProp 𝕄) :
    iprop(owns (c : Thread nD τ) arg2 fullShare X2 ∗ owns (c : Thread nD τ) arg10 fullShare C ∗ owns (c : Thread nD τ) arg11 fullShare S
        ∗ owns (c : Thread nD τ) arg12 fullShare U
        ∗ (iprop(owns (c : Thread nD τ) arg2 fullShare X2 ∗ owns (c : Thread nD τ) arg10 fullShare (if p then cAll X2 else C)
            ∗ owns (c : Thread nD τ) arg11 fullShare (if p then sAll X2 else S) ∗ owns (c : Thread nD τ) arg12 fullShare (uAll X2)) -∗ K ⟨⟩))
      ⊢ wp frame (wpE (defs₀ (F := F)) Variants.none c none) E (if h : p then qProg arg2 arg10 harg10 arg11 arg12 harg12 else pure ⟨⟩) K := by
  by_cases h : p
  · rw [dif_pos h, if_pos h, if_pos h]
    exact qProg_wp c E arg2 arg10 harg10 arg11 arg12 harg12 X2 C S U K
  · rw [dif_neg h, if_neg h, if_neg h, ← hU h, wp_pure]
    iintro ⟨H2, H10, H11, H12, Hk⟩
    imodintro
    iapply Hk
    isplitl [H2]; · iexact H2
    isplitl [H10]; · iexact H10
    isplitl [H11]; · iexact H11
    iexact H12

/-- A part that scales a whole weight block and multiplies by it. -/
theorem dotBlk_wp (c : Dev nD) (E : Set ℕ) (p : Prop) [Decidable p] (i : grid0.Coords) (arg3 : Memref sig .tc .vmem S1024x5632 .fp8e4m3) (arg4 : Memref sig .tc .smem S131x44 .f32)
    (argz : Memref sig .tc .vmem S512x1024 .bf16) (hargz : argz.IsWhole)
    (arg12 : Memref sig .tc .vmem S512x5632 .bf16) (arg13 : Memref sig .tc .vmem S1024x5632 .bf16) (harg13 : arg13.IsWhole) (hs : p → HS8 i)
    (X3 : Vec F S1024x5632 .fp8e4m3) (X4 : Vec F S131x44 .f32) (Z : Vec F S512x1024 .bf16) (U : Vec F S512x5632 .bf16) (W : Vec F S1024x5632 .bf16) (K : PUnit → sProp 𝕄) :
    iprop(owns (c : Thread nD τ) arg3 fullShare X3 ∗ owns (c : Thread nD τ) arg4 fullShare X4 ∗ owns (c : Thread nD τ) argz fullShare Z
        ∗ owns (c : Thread nD τ) arg12 fullShare U ∗ owns (c : Thread nD τ) arg13 fullShare W
        ∗ (iprop(∃ W' : Vec F S1024x5632 .bf16, owns (c : Thread nD τ) arg3 fullShare X3 ∗ owns (c : Thread nD τ) arg4 fullShare X4
            ∗ owns (c : Thread nD τ) argz fullShare (if p then zOut U (wAll (i 1).val X3 X4) else Z)
            ∗ owns (c : Thread nD τ) arg12 fullShare U ∗ owns (c : Thread nD τ) arg13 fullShare W') -∗ K ⟨⟩))
      ⊢ wp frame (wpE (defs₀ (F := F)) Variants.none c none) E (if h : p then (do
          deqLoop i arg3 arg4 arg13 harg13 8 (by omega) (by omega) (hs h) 352
          dotProg arg12 arg13 argz hargz) else pure ⟨⟩) K := by
  by_cases h : p
  · rw [dif_pos h, if_pos h, wp_bind]
    iintro ⟨H3, H4, Hz, H12, H13, Hk⟩
    iapply (deqLoop_wp c E i arg3 arg4 arg13 harg13 8 _ _ (hs h) X3 X4 _ 352 (by omega) W (fun y hy => absurd hy (Nat.not_lt_zero _)))
    isplitl [H3]; · iexact H3
    isplitl [H4]; · iexact H4
    isplitl [H13]; · iexact H13
    iintro ⟨%W', %hW, H3, H4, H13⟩
    have e : W' = wAll (i 1).val X3 X4 := funext fun y => hW y (by
      have h0 : (y 0).val < 1024 := (y 0).isLt
      have h1 : (y 1).val < 5632 := (y 1).isLt
      unfold tileNo; omega)
    subst e
    iapply (dotProg_wp c E arg12 arg13 argz hargz U _ Z K)
    isplitl [H12]; · iexact H12
    isplitl [H13]; · iexact H13
    isplitl [Hz]; · iexact Hz
    iintro ⟨H12, H13, Hz⟩
    iapply Hk
    iexists _
    isplitl [H3]; · iexact H3
    isplitl [H4]; · iexact H4
    isplitl [Hz]; · iexact Hz
    isplitl [H12]; · iexact H12
    iexact H13
  · rw [dif_neg h, if_neg h, wp_pure]
    iintro ⟨H3, H4, Hz, H12, H13, Hk⟩
    imodintro
    iapply Hk
    iexists _
    isplitl [H3]; · iexact H3
    isplitl [H4]; · iexact H4
    isplitl [Hz]; · iexact Hz
    isplitl [H12]; · iexact H12
    iexact H13

/-- The last part scales the weights' last 384 rows and stores the product with them in three buffers. -/
theorem tailBlk_wp (c : Dev nD) (E : Set ℕ) (p : Prop) [Decidable p] (i : grid0.Coords) (arg3 : Memref sig .tc .vmem S1024x5632 .fp8e4m3) (arg4 : Memref sig .tc .smem S131x44 .f32)
    (arg7 : Memref sig .tc .vmem S512x128 .bf16) (harg7 : arg7.IsWhole) (arg8 : Memref sig .tc .vmem S512x128 .bf16) (harg8 : arg8.IsWhole)
    (arg9 : Memref sig .tc .vmem S512x128 .bf16) (harg9 : arg9.IsWhole)
    (arg12 : Memref sig .tc .vmem S512x5632 .bf16) (arg13 : Memref sig .tc .vmem S1024x5632 .bf16) (harg13 : arg13.IsWhole) (hs : p → HS3 i)
    (X3 : Vec F S1024x5632 .fp8e4m3) (X4 : Vec F S131x44 .f32) (Z7 Z8 Z9 : Vec F S512x128 .bf16) (U : Vec F S512x5632 .bf16) (W : Vec F S1024x5632 .bf16) (K : PUnit → sProp 𝕄) :
    iprop(owns (c : Thread nD τ) arg3 fullShare X3 ∗ owns (c : Thread nD τ) arg4 fullShare X4 ∗ owns (c : Thread nD τ) arg7 fullShare Z7
        ∗ owns (c : Thread nD τ) arg8 fullShare Z8 ∗ owns (c : Thread nD τ) arg9 fullShare Z9
        ∗ owns (c : Thread nD τ) arg12 fullShare U ∗ owns (c : Thread nD τ) arg13 fullShare W
        ∗ (iprop(∃ W' : Vec F S1024x5632 .bf16, owns (c : Thread nD τ) arg3 fullShare X3 ∗ owns (c : Thread nD τ) arg4 fullShare X4
            ∗ owns (c : Thread nD τ) arg7 fullShare (if p then partB (tailDot U (top (wAll (i 1).val X3 X4))) else Z7)
            ∗ owns (c : Thread nD τ) arg8 fullShare (if p then partC (tailDot U (top (wAll (i 1).val X3 X4))) else Z8)
            ∗ owns (c : Thread nD τ) arg9 fullShare (if p then partD (tailDot U (top (wAll (i 1).val X3 X4))) else Z9)
            ∗ owns (c : Thread nD τ) arg12 fullShare U ∗ owns (c : Thread nD τ) arg13 fullShare W') -∗ K ⟨⟩))
      ⊢ wp frame (wpE (defs₀ (F := F)) Variants.none c none) E (if h : p then (do
          deqLoop i arg3 arg4 arg13 harg13 3 (by omega) (by omega) (hs h) 132
          tailProg arg12 arg13 arg7 harg7 arg8 harg8 arg9 harg9) else pure ⟨⟩) K := by
  by_cases h : p
  · rw [dif_pos h, if_pos h, if_pos h, if_pos h, wp_bind]
    iintro ⟨H3, H4, H7, H8, H9, H12, H13, Hk⟩
    iapply (deqLoop_wp c E i arg3 arg4 arg13 harg13 3 _ _ (hs h) X3 X4 _ 132 (by omega) W (fun y hy => absurd hy (Nat.not_lt_zero _)))
    isplitl [H3]; · iexact H3
    isplitl [H4]; · iexact H4
    isplitl [H13]; · iexact H13
    iintro ⟨%W', %hW, H3, H4, H13⟩
    have e : top W' = top (wAll (i 1).val X3 X4) := funext fun y => hW _ (by
      have h0 : (y 0).val < 384 := (y 0).isLt
      have h1 : (y 1).val < 5632 := (y 1).isLt
      show (0 + 1 * (y 0).val) / 128 * 44 + (0 + 1 * (y 1).val) / 128 < 132
      omega)
    iapply (tailProg_wp c E arg12 arg13 arg7 harg7 arg8 harg8 arg9 harg9 U W' Z7 Z8 Z9 K)
    rw [e]
    isplitl [H12]; · iexact H12
    isplitl [H13]; · iexact H13
    isplitl [H7]; · iexact H7
    isplitl [H8]; · iexact H8
    isplitl [H9]; · iexact H9
    iintro ⟨H12, H13, H7, H8, H9⟩
    iapply Hk
    iexists _
    isplitl [H3]; · iexact H3
    isplitl [H4]; · iexact H4
    isplitl [H7]; · iexact H7
    isplitl [H8]; · iexact H8
    isplitl [H9]; · iexact H9
    isplitl [H12]; · iexact H12
    iexact H13
  · rw [dif_neg h, if_neg h, if_neg h, if_neg h, wp_pure]
    iintro ⟨H3, H4, H7, H8, H9, H12, H13, Hk⟩
    imodintro
    iapply Hk
    iexists _
    isplitl [H3]; · iexact H3
    isplitl [H4]; · iexact H4
    isplitl [H7]; · iexact H7
    isplitl [H8]; · iexact H8
    isplitl [H9]; · iexact H9
    isplitl [H12]; · iexact H12
    iexact H13

/-- The body's four parts one after the other. -/
theorem bodyProg_parts (i : grid0.Coords) (arg2 : Memref sig .tc .vmem S512x5632 .bf16) (harg2 : arg2.IsWhole) (arg3 : Memref sig .tc .vmem S1024x5632 .fp8e4m3) (harg3 : arg3.IsWhole) (arg4 : Memref sig .tc .smem S131x44 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x5632 .fp8e4m3) (harg10 : arg10.IsWhole) (arg11 : Memref sig .tc .vmem S512x44 .f32) (harg11 : arg11.IsWhole) (arg12 : Memref sig .tc .vmem S512x5632 .bf16) (harg12 : arg12.IsWhole) (arg13 : Memref sig .tc .vmem S1024x5632 .bf16) (harg13 : arg13.IsWhole)
    (h2 : k0_cond2 i = 1#1 → HS8 i) (h3 : k0_cond3 i = 1#1 → HS8 i) (h4 : k0_cond4 i = 1#1 → HS3 i) :
    (bodyProg i arg2 harg2 arg3 harg3 arg4 harg4 arg5 harg5 arg6 harg6 arg7 harg7 arg8 harg8 arg9 harg9 arg10 harg10 arg11 harg11 arg12 harg12 arg13 harg13 h2 h3 h4 : Prog (TpuEff nD τ sig (Elt F) Λ₀ .tc) PUnit)
      = ((if h : k0_cond1 i = 1#1 then qProg arg2 arg10 harg10 arg11 arg12 harg12 else pure ⟨⟩) >>= fun _ =>
        (if h : k0_cond2 i = 1#1 then (do
          deqLoop i arg3 arg4 arg13 harg13 8 (by omega) (by omega) (h2 h) 352
          dotProg arg12 arg13 arg5 harg5) else pure ⟨⟩) >>= fun _ =>
        (if h : k0_cond3 i = 1#1 then (do
          deqLoop i arg3 arg4 arg13 harg13 8 (by omega) (by omega) (h3 h) 352
          dotProg arg12 arg13 arg6 harg6) else pure ⟨⟩) >>= fun _ =>
        (if h : k0_cond4 i = 1#1 then (do
          deqLoop i arg3 arg4 arg13 harg13 3 (by omega) (by omega) (h4 h) 132
          tailProg arg12 arg13 arg7 harg7 arg8 harg8 arg9 harg9) else pure ⟨⟩) >>= fun _ => pure ⟨⟩) := by
  unfold bodyProg
  by_cases c1 : k0_cond1 i = 1#1 <;> by_cases c2 : k0_cond2 i = 1#1 <;> by_cases c3 : k0_cond3 i = 1#1 <;> by_cases c4 : k0_cond4 i = 1#1 <;>
    simp only [c1, c2, c3, c4, dif_pos, dif_neg, not_false_eq_true, bind_assoc, pure_bind]

set_option maxHeartbeats 1000000 in
/-- One run of the body: what each buffer holds after it, by the weight block's number. -/
theorem body_wp (c : Dev nD) (E : Set ℕ) (i : grid0.Coords) (arg2 : Memref sig .tc .vmem S512x5632 .bf16) (harg2 : arg2.IsWhole) (arg3 : Memref sig .tc .vmem S1024x5632 .fp8e4m3) (harg3 : arg3.IsWhole) (arg4 : Memref sig .tc .smem S131x44 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x5632 .fp8e4m3) (harg10 : arg10.IsWhole) (arg11 : Memref sig .tc .vmem S512x44 .f32) (harg11 : arg11.IsWhole) (arg12 : Memref sig .tc .vmem S512x5632 .bf16) (harg12 : arg12.IsWhole) (arg13 : Memref sig .tc .vmem S1024x5632 .bf16) (harg13 : arg13.IsWhole)
    (X2 : Vec F S512x5632 .bf16) (X3 : Vec F S1024x5632 .fp8e4m3) (X4 : Vec F S131x44 .f32) (Z5 Z6 : Vec F S512x1024 .bf16) (Z7 Z8 Z9 : Vec F S512x128 .bf16)
    (C : Vec F S512x5632 .fp8e4m3) (S : Vec F S512x44 .f32) (U : Vec F S512x5632 .bf16) (W : Vec F S1024x5632 .bf16) (hU : (i 1).val ≠ 0 → U = uAll X2) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare Z5
        ∗ owns (c : Thread nD τ) arg6 fullShare Z6
        ∗ owns (c : Thread nD τ) arg7 fullShare Z7
        ∗ owns (c : Thread nD τ) arg8 fullShare Z8
        ∗ owns (c : Thread nD τ) arg9 fullShare Z9
        ∗ owns (c : Thread nD τ) arg10 fullShare C
        ∗ owns (c : Thread nD τ) arg11 fullShare S
        ∗ owns (c : Thread nD τ) arg12 fullShare U
        ∗ owns (c : Thread nD τ) arg13 fullShare W
        ∗ (iprop(∃ W' : Vec F S1024x5632 .bf16, owns (c : Thread nD τ) arg2 fullShare X2
            ∗ owns (c : Thread nD τ) arg3 fullShare X3
            ∗ owns (c : Thread nD τ) arg4 fullShare X4
            ∗ owns (c : Thread nD τ) arg5 fullShare (if (i 1).val < 8 then zOut (uAll X2) (wAll (i 1).val X3 X4) else Z5)
            ∗ owns (c : Thread nD τ) arg6 fullShare (if 8 ≤ (i 1).val ∧ (i 1).val < 16 then zOut (uAll X2) (wAll (i 1).val X3 X4) else Z6)
            ∗ owns (c : Thread nD τ) arg7 fullShare (if (i 1).val = 16 then partB (tailDot (uAll X2) (top (wAll (i 1).val X3 X4))) else Z7)
            ∗ owns (c : Thread nD τ) arg8 fullShare (if (i 1).val = 16 then partC (tailDot (uAll X2) (top (wAll (i 1).val X3 X4))) else Z8)
            ∗ owns (c : Thread nD τ) arg9 fullShare (if (i 1).val = 16 then partD (tailDot (uAll X2) (top (wAll (i 1).val X3 X4))) else Z9)
            ∗ owns (c : Thread nD τ) arg10 fullShare (if (i 1).val = 0 then cAll X2 else C)
            ∗ owns (c : Thread nD τ) arg11 fullShare (if (i 1).val = 0 then sAll X2 else S)
            ∗ owns (c : Thread nD τ) arg12 fullShare (uAll X2)
            ∗ owns (c : Thread nD τ) arg13 fullShare W') -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  have h2 : k0_cond2 i = 1#1 → HS8 i := fun h => hs8 (by have := (cond2_iff i).mp h; omega)
  have h3 : k0_cond3 i = 1#1 → HS8 i := fun h => hs8 ((cond3_iff i).mp h).2
  have h4 : k0_cond4 i = 1#1 → HS3 i := fun _ => hs3
  rw [body_eq i arg2 harg2 arg3 harg3 arg4 harg4 arg5 harg5 arg6 harg6 arg7 harg7 arg8 harg8 arg9 harg9 arg10 harg10 arg11 harg11 arg12 harg12 arg13 harg13 h2 h3 h4]
  rw [bodyProg_parts]
  simp only [← cond1_iff i, ← cond2_iff i, ← cond3_iff i, ← cond4_iff i]
  rw [wp_bind]
  iintro ⟨H2, H3, H4, H5, H6, H7, H8, H9, H10, H11, H12, H13, Hk⟩
  iapply (qBlk_wp c E _ arg2 arg10 harg10 arg11 arg12 harg12 X2 C S U (fun h => hU (fun h' => h ((cond1_iff i).mpr h'))) _)
  isplitl [H2]; · iexact H2
  isplitl [H10]; · iexact H10
  isplitl [H11]; · iexact H11
  isplitl [H12]; · iexact H12
  iintro ⟨H2, H10, H11, H12⟩
  rw [wp_bind]
  iapply (dotBlk_wp c E _ i arg3 arg4 arg5 harg5 arg12 arg13 harg13 h2 X3 X4 Z5 _ W _)
  isplitl [H3]; · iexact H3
  isplitl [H4]; · iexact H4
  isplitl [H5]; · iexact H5
  isplitl [H12]; · iexact H12
  isplitl [H13]; · iexact H13
  iintro ⟨%W1, H3, H4, H5, H12, H13⟩
  rw [wp_bind]
  iapply (dotBlk_wp c E _ i arg3 arg4 arg6 harg6 arg12 arg13 harg13 h3 X3 X4 Z6 _ W1 _)
  isplitl [H3]; · iexact H3
  isplitl [H4]; · iexact H4
  isplitl [H6]; · iexact H6
  isplitl [H12]; · iexact H12
  isplitl [H13]; · iexact H13
  iintro ⟨%W2, H3, H4, H6, H12, H13⟩
  rw [wp_bind]
  iapply (tailBlk_wp c E _ i arg3 arg4 arg7 harg7 arg8 harg8 arg9 harg9 arg12 arg13 harg13 h4 X3 X4 Z7 Z8 Z9 _ W2 _)
  isplitl [H3]; · iexact H3
  isplitl [H4]; · iexact H4
  isplitl [H7]; · iexact H7
  isplitl [H8]; · iexact H8
  isplitl [H9]; · iexact H9
  isplitl [H12]; · iexact H12
  isplitl [H13]; · iexact H13
  iintro ⟨%W3, H3, H4, H7, H8, H9, H12, H13⟩
  rw [wp_pure]
  imodintro
  iapply Hk
  iexists W3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.InProj
end
-- ==== Proof.Data.lean ====
/- What each staging buffer holds after each grid point, and that the body leaves it so. -/
module

public import proofs.«01_k».proof.Proof.Body
public import proofs.«01_k».proof.Proof.Gen.KernelIdeal.Frame
public import Idealize.ShloMosaic.Lib.Pipeline.TableIdle

@[expose] public section

noncomputable section

namespace Cert.InProj

open Idealize.ShloMosaic Idealize.ShloMosaic.TcCoe Idealize.ShloMosaic.Tactic Cert.KernelIdeal Cert.KernelIdeal.Gen
open Cert.KernelIdeal.Facts Cert.KernelIdeal.K0.Facts₀ Cert.KernelIdeal.Shapes1.Facts₀
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem n_points (t : Fin cfg0.N) : t.val < 544 := N_0 ▸ t.isLt

/-- A point's row block; -/
theorem coord0 (t : Fin cfg0.N) : (grid0.coords t 0).val = t.val / 17 := by
  have := n_points t
  rw [Pipeline.Grid.coords_val (G := grid0) t 0 (S := 17) (B := 32) (by decide) rfl]; omega

/-- and its weight block. -/
theorem coord1 (t : Fin cfg0.N) : (grid0.coords t 1).val = t.val % 17 := by
  rw [Pipeline.Grid.coords_val (G := grid0) t 1 (S := 1) (B := 17) (by decide) rfl, Nat.div_one]

/-- The row block's first point; -/
def rpt (t : Fin cfg0.N) : Fin cfg0.N := ⟨17 * (t.val / 17), by have := n_points t; show _ < grid0.N; rw [show grid0.N = 544 from N_0]; omega⟩
/-- the point that fills the block of the first wide result a point's buffer is for; -/
def zpt (t : Fin cfg0.N) : Fin cfg0.N := ⟨17 * (t.val / 17) + min (t.val % 17) 7, by have := n_points t; show _ < grid0.N; rw [show grid0.N = 544 from N_0]; omega⟩
/-- the same for the second wide result; -/
def xpt (t : Fin cfg0.N) : Fin cfg0.N := ⟨17 * (t.val / 17) + max 8 (min (t.val % 17) 15), by have := n_points t; show _ < grid0.N; rw [show grid0.N = 544 from N_0]; omega⟩
/-- the row block's last point. -/
def tpt (t : Fin cfg0.N) : Fin cfg0.N := ⟨17 * (t.val / 17) + 16, by have := n_points t; show _ < grid0.N; rw [show grid0.N = 544 from N_0]; omega⟩

/-! ## The proof data -/

/-- The row block at point `t`. -/
abbrev ub (c : Dev nD) (t : Fin cfg0.N) : Vec F S512x5632 .bf16 := iblk m c 0 t
/-- The scales of the weights. -/
abbrev sb (c : Dev nD) (t : Fin cfg0.N) : Vec F S131x44 .f32 := iblk m c 2 t
/-- The weight block at point `t`, filled out past the array's end. -/
def wb (c : Dev nD) (t : Fin cfg0.N) : Vec F S1024x5632 .fp8e4m3 :=
  win0_1.fill (grid0.coords t) (fun _ => Scalar.ofBits .fp8e4m3 0#8) (iblk m c 1 t)

/-- The block of a wide result that point `t` makes. -/
def zVal (c : Dev nD) (t : Fin cfg0.N) : Vec F S512x1024 .bf16 := zOut (uAll (ub m c t)) (wAll (t.val % 17) (wb m c t) (sb m c t))
/-- The three narrow results that a row block's last point makes, side by side. -/
def tVal (c : Dev nD) (t : Fin cfg0.N) : FVec F S512x384 .bf16 := tailDot (uAll (ub m c t)) (top (wAll (t.val % 17) (wb m c t) (sb m c t)))

/-- What each window's buffer holds once the body has run at a point. -/
def afterK (c : Dev nD) : (w : Fin cfg0.W) → (t : Fin cfg0.N) → (cfg0.win w).block.Idx → Elt F (cfg0.win w).elt
  | ⟨0, _⟩, t => ub m c t
  | ⟨1, _⟩, t => wb m c t
  | ⟨2, _⟩, t => sb m c t
  | ⟨3, _⟩, t => zVal m c (zpt t)
  | ⟨4, _⟩, t => zVal m c (xpt t)
  | ⟨5, _⟩, t => partB (tVal m c (tpt t))
  | ⟨6, _⟩, t => partC (tVal m c (tpt t))
  | ⟨7, _⟩, t => partD (tVal m c (tpt t))
  | ⟨8, _⟩, t => cAll (ub m c t)
  | ⟨9, _⟩, t => sAll (ub m c t)

/-- Between points the first scratch buffer holds the row block's scaled-back codes, unless the next point starts a new
    row block; the second holds anything. -/
def phi (c : Dev nD) (s : Fin (cfg0.N + 1)) : sProp 𝕄 :=
  iprop((∃ U : Vec F S512x5632 .bf16, ⌜∀ t : Fin cfg0.N, t.val + 1 = s.val → t.val % 17 ≠ 16 → U = uAll (ub m c t)⌝
      ∗ owns (c : Thread nD τ) (Memref.whole cc0_scratch0 : Memref sig .tc .vmem S512x5632 .bf16) fullShare U)
    ∗ (∃ W : Vec F S1024x5632 .bf16, owns (c : Thread nD τ) (Memref.whole cc0_scratch1 : Memref sig .tc .vmem S1024x5632 .bf16) fullShare W)
    ∗ ∃ r, prngReg c r)

/-- The proof data: the arrays as the region finds them, the buffers as above, every share whole. -/
def dats (_ : Fin 1) (c : Dev nD) : Dat τ (Elt F) Unit ℕ (UR sig nD τ) ℕ cfg0 c where
  A w := V m c (Pipeline.arrRef spec0 w)
  after := afterK m c
  Φ := phi m c
  q _ := fullShare
  owed _ := 0

/-! ## Where blocks are fetched and written back -/

theorem flush3 (t : Fin cfg0.N) : (cfg0.win 3).flush t = true ↔ t.val % 17 < 7 ∨ t.val % 17 = 16 := by
  have h : ∀ t : Fin grid0.N, win0_3.flushF t = true ↔ t.val % 17 < 7 ∨ t.val % 17 = 16 := by decide +kernel
  exact (iff_of_eq (congrArg (· = true) (win0_3.flush_eq_flushF t))).trans (h t)

theorem flush4 (t : Fin cfg0.N) : (cfg0.win 4).flush t = true ↔ (8 ≤ t.val % 17 ∧ t.val % 17 < 15) ∨ t.val % 17 = 16 := by
  have h : ∀ t : Fin grid0.N, win0_4.flushF t = true ↔ (8 ≤ t.val % 17 ∧ t.val % 17 < 15) ∨ t.val % 17 = 16 := by decide +kernel
  exact (iff_of_eq (congrArg (· = true) (win0_4.flush_eq_flushF t))).trans (h t)

/-- The block of the row block does not depend on the weight block. -/
theorem ub_congr (c : Dev nD) {t t' : Fin cfg0.N} (h : t.val / 17 = t'.val / 17) : ub m c t = ub m c t' := by
  have e : win0_0.index t = win0_0.index t' := by
    show cc0_transform_0 (grid0.coords t) = cc0_transform_0 (grid0.coords t')
    unfold cc0_transform_0
    rw [coord0, coord0, h]
  funext y
  show V m c (Pipeline.arrRef spec0 0) _ = V m c (Pipeline.arrRef spec0 0) _
  congr 1
  funext a
  apply Fin.ext
  show win0_0.index t a * _ + 1 * (y a).val = win0_0.index t' a * _ + 1 * (y a).val
  rw [e]

set_option maxRecDepth 16384 in
/-- The rows of a weight block that lie in the array are moved. -/
theorem moved1 (t : Fin cfg0.N) (y : S1024x5632.Idx) (hy : 1024 * (t.val % 17) + (y 0).val < 16768) : win0_1.moved (grid0.coords t) y = true := by
  rw [Window.moved_iff]
  have h1 : (y 1).val < 5632 := (y 1).isLt
  have h0 : (y 0).val < 1024 := (y 0).isLt
  have hj := coord1 t
  have ho : ∀ (o : Nat), o = t.val % 17 → (y 0).val < (Pipeline.Clip.of o 1024 16768).extent 1024 := fun o e => by
    subst e; unfold Pipeline.Clip.of; split
    · exact h0
    · show (y 0).val < 16768 - t.val % 17 * 1024; omega
  intro a
  match a with
  | ⟨0, _⟩ =>
    show (y 0).val < (Pipeline.Clip.of (BitVec.ofNat 32 (grid0.coords t 1).val).toNat 1024 16768).extent 1024
    exact ho _ (by rw [BitVec.toNat_ofNat, hj]; omega)
  | ⟨1, _⟩ =>
    show (y 1).val < (Pipeline.Clip.of (0#32 : BitVec 32).toNat 5632 5632).extent 5632
    rw [show Pipeline.Clip.of (0#32 : BitVec 32).toNat 5632 5632 = none from by unfold Pipeline.Clip.of; rw [if_pos]; decide]
    exact h1

/-- The rows of a weight block that lie in the array do not depend on the words past its end. -/
theorem fill_eq (c : Dev nD) (t : Fin cfg0.N) (d d' : Vec F S1024x5632 .fp8e4m3) (g) (y : S1024x5632.Idx) (hy : 1024 * (t.val % 17) + (y 0).val < 16768) :
    win0_1.fill (grid0.coords t) d g y = win0_1.fill (grid0.coords t) d' g y := by
  have hm := moved1 t y hy
  unfold Window.fill
  rw [dif_pos hm, dif_pos hm]

/-- A whole weight block's scaled rows do not depend on words past the array's end, where it has none; -/
theorem wAll_fill (c : Dev nD) (t : Fin cfg0.N) (d : Vec F S1024x5632 .fp8e4m3) (X4 : Vec F S131x44 .f32) (h : t.val % 17 < 16) :
    wAll (t.val % 17) (win0_1.fill (grid0.coords t) d (iblk m c 1 t)) X4 = wAll (t.val % 17) (wb m c t) X4 := by
  funext y
  have h0 : (y 0).val < 1024 := (y 0).isLt
  unfold wAll wb
  rw [fill_eq c t d _ _ y (by omega)]

/-- nor do the rows the last point reads. -/
theorem top_fill (c : Dev nD) (t : Fin cfg0.N) (d : Vec F S1024x5632 .fp8e4m3) (X4 : Vec F S131x44 .f32) :
    top (wAll (t.val % 17) (win0_1.fill (grid0.coords t) d (iblk m c 1 t)) X4) = top (wAll (t.val % 17) (wb m c t) X4) := by
  funext y
  have h0 : (y 0).val < 384 := (y 0).isLt
  unfold top window wAll wb
  dsimp only
  rw [fill_eq c t d _ _ _ (by
    show 1024 * (t.val % 17) + (0 + 1 * (y 0).val) < 16768
    omega)]

/-! ## Where a buffer is left alone -/

theorem idle3 (t : Fin cfg0.N) : (!(k0_cond2 (grid0.coords t) == 1#1)) = !decide (t.val % 17 < 8) := by
  rw [← coord1 t]; congr 1; rw [Bool.eq_iff_iff, beq_iff_eq, decide_eq_true_eq]; exact cond2_iff _
theorem idle4 (t : Fin cfg0.N) : (!(k0_cond3 (grid0.coords t) == 1#1)) = !decide (8 ≤ t.val % 17 ∧ t.val % 17 < 16) := by
  rw [← coord1 t]; congr 1; rw [Bool.eq_iff_iff, beq_iff_eq, decide_eq_true_eq]; exact cond3_iff _
theorem idle5 (t : Fin cfg0.N) : (!(k0_cond4 (grid0.coords t) == 1#1)) = !decide (t.val % 17 = 16) := by
  rw [← coord1 t]; congr 1; rw [Bool.eq_iff_iff, beq_iff_eq, decide_eq_true_eq]; exact cond4_iff _
theorem idle8 (t : Fin cfg0.N) : (!(k0_cond1 (grid0.coords t) == 1#1)) = !decide (t.val % 17 = 0) := by
  rw [← coord1 t]; congr 1; rw [Bool.eq_iff_iff, beq_iff_eq, decide_eq_true_eq]; exact cond1_iff _

/-- A result's buffer keeps what a point left in it as long as no later point stores into it or writes it back. -/
theorem hold (c : Dev nD) (w : Fin cfg0.W) (hf : ∀ t, (cfg0.win w).fetch t = false) (s : Fin cfg0.N) (hs : cfg0.idle w (cfg0.grid.coords s) = false)
    (v : (cfg0.win w).block.Idx → Elt F (cfg0.win w).elt) (hv : ∀ d, (dats m 0 c).kept w s d = v) (n : Nat) :
    ∀ t : Fin cfg0.N, t.val = s.val + 1 + n → (∀ u : Fin cfg0.N, s.val ≤ u.val → u.val < t.val → (cfg0.win w).flush u = false)
      → (∀ u : Fin cfg0.N, s.val < u.val → u.val < t.val → cfg0.idle w (cfg0.grid.coords u) = true) → ∀ d, (dats m 0 c).before w t d = v := by
  induction n with
  | zero =>
    intro t ht hq hi d
    have e : (⟨t.val - 1, Nat.lt_of_le_of_lt (Nat.sub_le _ _) t.isLt⟩ : Fin cfg0.N) = s := Fin.ext (by show t.val - 1 = s.val; omega)
    rw [Dat.before_of_pos _ w t (by omega) (hf t), e, hq s (Nat.le_refl _) (by omega), if_neg Bool.false_ne_true]
    unfold Dat.left
    rw [hs]
    exact hv d
  | succ n ih =>
    intro t ht hq hi d
    generalize hu : (⟨t.val - 1, Nat.lt_of_le_of_lt (Nat.sub_le _ _) t.isLt⟩ : Fin cfg0.N) = u
    have hu' : u.val = t.val - 1 := by rw [← hu]
    rw [Dat.before_of_pos _ w t (by omega) (hf t), hu, hq u (by omega) (by omega), if_neg Bool.false_ne_true]
    unfold Dat.left
    rw [hi u (by omega) (by omega)]
    exact ih u (by omega) (fun x h1 h2 => hq x h1 (by omega)) (fun x h1 h2 => hi x h1 (by omega)) d

/-- The first wide result's buffer at a row block's last point. -/
theorem before3_last (c : Dev nD) (t : Fin cfg0.N) (ht : t.val % 17 = 16) (d) : (dats m 0 c).before (3 : Fin 10) t d = zVal m c (zpt t) := by
  have e : (zpt t).val = 17 * (t.val / 17) + min (t.val % 17) 7 := rfl
  refine hold m c 3 (fun _ => rfl) (zpt t) ?_ _ ?_ 8 t ?_ ?_ ?_ d
  · show (!(k0_cond2 (grid0.coords (zpt t)) == 1#1)) = false
    rw [idle3]; simp only [Bool.not_eq_false', decide_eq_true_eq]; omega
  · intro d
    show zVal m c (zpt (zpt t)) = _
    congr 1; apply Fin.ext; unfold zpt; dsimp only; omega
  · omega
  · intro u h1 h2; rw [← Bool.not_eq_true, flush3]; omega
  · intro u h1 h2; show (!(k0_cond2 (grid0.coords u) == 1#1)) = true
    rw [idle3]; simp only [Bool.not_eq_true', decide_eq_false_iff_not]; omega

/-- The second's. -/
theorem before4_last (c : Dev nD) (t : Fin cfg0.N) (ht : t.val % 17 = 16) (d) : (dats m 0 c).before (4 : Fin 10) t d = zVal m c (xpt t) := by
  have e : (xpt t).val = 17 * (t.val / 17) + max 8 (min (t.val % 17) 15) := rfl
  refine hold m c 4 (fun _ => rfl) (xpt t) ?_ _ ?_ 0 t ?_ ?_ ?_ d
  · show (!(k0_cond3 (grid0.coords (xpt t)) == 1#1)) = false
    rw [idle4]; simp only [Bool.not_eq_false', decide_eq_true_eq]; omega
  · intro d
    show zVal m c (xpt (xpt t)) = _
    congr 1; apply Fin.ext; unfold xpt; dsimp only; omega
  · omega
  · intro u h1 h2; rw [← Bool.not_eq_true, flush4]; omega
  · intro u h1 h2; omega

/-- The codes' buffer there. -/
theorem before8_last (c : Dev nD) (t : Fin cfg0.N) (ht : t.val % 17 = 16) (d) : (dats m 0 c).before (8 : Fin 10) t d = cAll (ub m c t) := by
  have e : (rpt t).val = 17 * (t.val / 17) := rfl
  refine hold m c 8 (fun _ => rfl) (rpt t) ?_ _ ?_ 15 t ?_ ?_ ?_ d
  · show (!(k0_cond1 (grid0.coords (rpt t)) == 1#1)) = false
    rw [idle8]; simp only [Bool.not_eq_false', decide_eq_true_eq]; omega
  · intro d
    show cAll (ub m c (rpt t)) = _
    rw [ub_congr m c (t := rpt t) (t' := t) (by omega)]
  · omega
  · intro u h1 h2; rw [← Bool.not_eq_true, flush0_8]; omega
  · intro u h1 h2; show (!(k0_cond1 (grid0.coords u) == 1#1)) = true
    rw [idle8]; simp only [Bool.not_eq_true', decide_eq_false_iff_not]; omega

/-- The scales' buffer there. -/
theorem before9_last (c : Dev nD) (t : Fin cfg0.N) (ht : t.val % 17 = 16) (d) : (dats m 0 c).before (9 : Fin 10) t d = sAll (ub m c t) := by
  have e : (rpt t).val = 17 * (t.val / 17) := rfl
  refine hold m c 9 (fun _ => rfl) (rpt t) ?_ _ ?_ 15 t ?_ ?_ ?_ d
  · show (!(k0_cond1 (grid0.coords (rpt t)) == 1#1)) = false
    rw [idle8]; simp only [Bool.not_eq_false', decide_eq_true_eq]; omega
  · intro d
    show sAll (ub m c (rpt t)) = _
    rw [ub_congr m c (t := rpt t) (t' := t) (by omega)]
  · omega
  · intro u h1 h2; rw [← Bool.not_eq_true, flush0_9]; omega
  · intro u h1 h2; show (!(k0_cond1 (grid0.coords u) == 1#1)) = true
    rw [idle8]; simp only [Bool.not_eq_true', decide_eq_false_iff_not]; omega

/-! ## What the body hands back -/

/-- A buffer the body stored into, or that is written back here, holds what the proof data says. -/
theorem leaves_after (c : Dev nD) (w : Fin cfg0.W) (t : Fin cfg0.N) (hl : cfg0.loose w = false) (h : cfg0.idle w (cfg0.grid.coords t) = false ∨ (cfg0.win w).flush t = true)
    (X) (e : X = (dats m 0 c).after w t) :
    (owns (c : Thread nD τ) ((cfg0.win w).stage (cfg0.slots t w)) fullShare X : sProp 𝕄) ⊢ (dats m 0 c).leaves w t := by
  subst e
  unfold Dat.leaves
  rcases h with h | h
  · rw [h, hl]
  · rw [h, hl]; split <;> exact .rfl

/-- A buffer the body left alone, and that is not written back here, holds what it held. -/
theorem leaves_before (c : Dev nD) (w : Fin cfg0.W) (t : Fin cfg0.N) (h : cfg0.idle w (cfg0.grid.coords t) = true) (hf : (cfg0.win w).flush t = false)
    (X) (d) (e : X = (dats m 0 c).before w t d) :
    (owns (c : Thread nD τ) ((cfg0.win w).stage (cfg0.slots t w)) fullShare X : sProp 𝕄) ⊢ (dats m 0 c).leaves w t := by
  subst e
  rw [Dat.leaves_idle _ w t h hf]
  iintro H; iexists d; iexact H

end Cert.InProj
end
-- ==== Proof.KFrame.lean ====
/- The kernel runs, and what its arrays hold afterwards. -/
module

public import proofs.«01_k».proof.Proof.Data

@[expose] public section

noncomputable section

namespace Cert.InProj

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_1 (c : Dev nD) (t : Fin cfg0.N) (d) : (dats m 0 c).before (1 : Fin 10) t d = win0_1.fill (grid0.coords t) d (iblk m c 1 t) := by
  unfold Dat.before; rw [if_pos (fetch0_1 t)]; rfl

/-- A wide result's buffer after the body at a point of its half, and left alone elsewhere. -/
theorem leaves3 (c : Dev nD) (t : Fin cfg0.N) (d d1) :
    (owns (c : Thread nD τ) ((cfg0.win (3 : Fin 10)).stage (cfg0.slots t (3 : Fin 10))) fullShare
      (if t.val % 17 < 8 then zOut (uAll (ub m c t)) (wAll (t.val % 17) (win0_1.fill (grid0.coords t) d1 (iblk m c 1 t)) (sb m c t)) else (dats m 0 c).before (3 : Fin 10) t d) : sProp 𝕄)
      ⊢ (dats m 0 c).leaves (3 : Fin 10) t := by
  by_cases h : t.val % 17 < 8
  · rw [if_pos h, wAll_fill m c t d1 _ (by omega)]
    refine leaves_after m c 3 t rfl (.inl ?_) _ ?_
    · show (!(k0_cond2 (grid0.coords t) == 1#1)) = false
      rw [idle3, decide_eq_true h]; rfl
    · show zVal m c t = zVal m c (zpt t)
      congr 1; apply Fin.ext; unfold zpt; dsimp only; omega
  · rw [if_neg h]
    by_cases h16 : t.val % 17 = 16
    · refine leaves_after m c 3 t rfl (.inr ((flush3 t).mpr (.inr h16))) _ ?_
      rw [before3_last m c t h16]; rfl
    · refine leaves_before m c 3 t ?_ (by rw [← Bool.not_eq_true, flush3]; omega) _ d rfl
      show (!(k0_cond2 (grid0.coords t) == 1#1)) = true
      rw [idle3, decide_eq_false h]; rfl

theorem leaves4 (c : Dev nD) (t : Fin cfg0.N) (d d1) :
    (owns (c : Thread nD τ) ((cfg0.win (4 : Fin 10)).stage (cfg0.slots t (4 : Fin 10))) fullShare
      (if 8 ≤ t.val % 17 ∧ t.val % 17 < 16 then zOut (uAll (ub m c t)) (wAll (t.val % 17) (win0_1.fill (grid0.coords t) d1 (iblk m c 1 t)) (sb m c t)) else (dats m 0 c).before (4 : Fin 10) t d) : sProp 𝕄)
      ⊢ (dats m 0 c).leaves (4 : Fin 10) t := by
  by_cases h : 8 ≤ t.val % 17 ∧ t.val % 17 < 16
  · rw [if_pos h, wAll_fill m c t d1 _ (by omega)]
    refine leaves_after m c 4 t rfl (.inl ?_) _ ?_
    · show (!(k0_cond3 (grid0.coords t) == 1#1)) = false
      rw [idle4, decide_eq_true h]; rfl
    · show zVal m c t = zVal m c (xpt t)
      congr 1; apply Fin.ext; unfold xpt; dsimp only; omega
  · rw [if_neg h]
    by_cases h16 : t.val % 17 = 16
    · refine leaves_after m c 4 t rfl (.inr ((flush4 t).mpr (.inr h16))) _ ?_
      rw [before4_last m c t h16]; rfl
    · refine leaves_before m c 4 t ?_ (by rw [← Bool.not_eq_true, flush4]; omega) _ d rfl
      show (!(k0_cond3 (grid0.coords t) == 1#1)) = true
      rw [idle4, decide_eq_false h]; rfl

/-- A narrow result's buffer: stored into and written back at the row block's last point only. -/
theorem leavesT (c : Dev nD) (w : Fin cfg0.W) (hl : cfg0.loose w = false) (t : Fin cfg0.N) (hi : cfg0.idle w (cfg0.grid.coords t) = !(k0_cond4 (grid0.coords t) == 1#1))
    (hf : (cfg0.win w).flush t = true ↔ t.val % 17 = 16) (X) (d) (e : t.val % 17 = 16 → X = (dats m 0 c).after w t) :
    (owns (c : Thread nD τ) ((cfg0.win w).stage (cfg0.slots t w)) fullShare (if t.val % 17 = 16 then X else (dats m 0 c).before w t d) : sProp 𝕄)
      ⊢ (dats m 0 c).leaves w t := by
  rw [idle5] at hi
  by_cases h : t.val % 17 = 16
  · rw [if_pos h]
    exact leaves_after m c w t hl (.inr (hf.mpr h)) _ (e h)
  · rw [if_neg h]
    exact leaves_before m c w t (by rw [hi, decide_eq_false h]; rfl) (by rw [← Bool.not_eq_true, hf]; exact h) _ d rfl

/-- The quantiser's buffers: stored into at the row block's first point, written back at its last. -/
theorem leavesQ (c : Dev nD) (w : Fin cfg0.W) (hl : cfg0.loose w = false) (t : Fin cfg0.N) (hi : cfg0.idle w (cfg0.grid.coords t) = !(k0_cond1 (grid0.coords t) == 1#1))
    (hf : (cfg0.win w).flush t = true ↔ t.val % 17 = 16) (X) (d) (e : X = (dats m 0 c).after w t) (hb : t.val % 17 = 16 → (dats m 0 c).before w t d = X) :
    (owns (c : Thread nD τ) ((cfg0.win w).stage (cfg0.slots t w)) fullShare (if t.val % 17 = 0 then X else (dats m 0 c).before w t d) : sProp 𝕄)
      ⊢ (dats m 0 c).leaves w t := by
  rw [idle8] at hi
  by_cases h : t.val % 17 = 0
  · rw [if_pos h]
    exact leaves_after m c w t hl (.inl (by rw [hi, decide_eq_true h]; rfl)) _ e
  · rw [if_neg h]
    by_cases h16 : t.val % 17 = 16
    · exact leaves_after m c w t hl (.inr (hf.mpr h16)) _ ((hb h16).trans e)
    · exact leaves_before m c w t (by rw [hi, decide_eq_false h]; rfl) (by rw [← Bool.not_eq_true, hf]; exact h16) _ d rfl

/-- The parts of the last product, whatever the words past the weights' end. -/
theorem tVal_fill (c : Dev nD) (t : Fin cfg0.N) (d1) (h : t.val % 17 = 16) :
    tailDot (uAll (ub m c t)) (top (wAll (t.val % 17) (win0_1.fill (grid0.coords t) d1 (iblk m c 1 t)) (sb m c t))) = tVal m c (tpt t) := by
  rw [top_fill]
  show tVal m c t = _
  congr 1; apply Fin.ext; unfold tpt; dsimp only; omega

set_option maxHeartbeats 4000000 in
theorem body_obligation (c : Dev nD) : BodyObligationLoose (dats m 0 c) (defs₀ (F := F)) Variants.none () Set.univ := fun t => by
  rw [bigSep_W0, bigSep_W0]
  change iprop(phi m c t.castSucc ∗ (dats m 0 c).owesAt () t.castSucc ∗ (∃ d, owns (c : Thread nD τ) ((cfg0.win (0 : Fin 10)).stage (cfg0.slots t (0 : Fin 10))) fullShare ((dats m 0 c).before (0 : Fin 10) t d)) ∗ (∃ d, owns (c : Thread nD τ) ((cfg0.win (1 : Fin 10)).stage (cfg0.slots t (1 : Fin 10))) fullShare ((dats m 0 c).before (1 : Fin 10) t d)) ∗ (∃ d, owns (c : Thread nD τ) ((cfg0.win (2 : Fin 10)).stage (cfg0.slots t (2 : Fin 10))) fullShare ((dats m 0 c).before (2 : Fin 10) t d)) ∗ (∃ d, owns (c : Thread nD τ) ((cfg0.win (3 : Fin 10)).stage (cfg0.slots t (3 : Fin 10))) fullShare ((dats m 0 c).before (3 : Fin 10) t d)) ∗ (∃ d, owns (c : Thread nD τ) ((cfg0.win (4 : Fin 10)).stage (cfg0.slots t (4 : Fin 10))) fullShare ((dats m 0 c).before (4 : Fin 10) t d)) ∗ (∃ d, owns (c : Thread nD τ) ((cfg0.win (5 : Fin 10)).stage (cfg0.slots t (5 : Fin 10))) fullShare ((dats m 0 c).before (5 : Fin 10) t d)) ∗ (∃ d, owns (c : Thread nD τ) ((cfg0.win (6 : Fin 10)).stage (cfg0.slots t (6 : Fin 10))) fullShare ((dats m 0 c).before (6 : Fin 10) t d)) ∗ (∃ d, owns (c : Thread nD τ) ((cfg0.win (7 : Fin 10)).stage (cfg0.slots t (7 : Fin 10))) fullShare ((dats m 0 c).before (7 : Fin 10) t d)) ∗ (∃ d, owns (c : Thread nD τ) ((cfg0.win (8 : Fin 10)).stage (cfg0.slots t (8 : Fin 10))) fullShare ((dats m 0 c).before (8 : Fin 10) t d)) ∗ (∃ d, owns (c : Thread nD τ) ((cfg0.win (9 : Fin 10)).stage (cfg0.slots t (9 : Fin 10))) fullShare ((dats m 0 c).before (9 : Fin 10) t d)))
    ⊢ wp frame (wpE (defs₀ (F := F)) Variants.none c none) Set.univ (bodyAt0 t) fun _ =>
      iprop(phi m c t.succ ∗ (dats m 0 c).owesAt () t.castSucc ∗ (dats m 0 c).leaves (0 : Fin 10) t ∗ (dats m 0 c).leaves (1 : Fin 10) t ∗ (dats m 0 c).leaves (2 : Fin 10) t ∗ (dats m 0 c).leaves (3 : Fin 10) t ∗ (dats m 0 c).leaves (4 : Fin 10) t ∗ (dats m 0 c).leaves (5 : Fin 10) t ∗ (dats m 0 c).leaves (6 : Fin 10) t ∗ (dats m 0 c).leaves (7 : Fin 10) t ∗ (dats m 0 c).leaves (8 : Fin 10) t ∗ (dats m 0 c).leaves (9 : Fin 10) t)
  unfold phi
  iintro ⟨⟨⟨%U, %hU, HU⟩, ⟨%W, HW⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (dats m 0 c) rfl (fun _ => rfl) t d0, before_1 m c t d1, before0_2_of m (dats m 0 c) rfl (fun _ => rfl) t d2]
  have hU' : (grid0.coords t 1).val ≠ 0 → U = uAll (ub m c t) := by
    rw [coord1]; intro h
    have hn := n_points t
    rw [hU ⟨t.val - 1, Nat.lt_of_le_of_lt (Nat.sub_le _ _) t.isLt⟩ (by show t.val - 1 + 1 = t.val; omega) (by show (t.val - 1) % 17 ≠ 16; omega),
      ub_congr m c (t' := t) (by show (t.val - 1) / 17 = t.val / 17; omega)]
  iapply (body_wp (F := F) c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (Memref.whole cc0_scratch0) _ (Memref.whole cc0_scratch1) _
    (iblk m c 0 t)
    (win0_1.fill (grid0.coords t) d1 (iblk m c 1 t))
    (iblk m c 2 t)
    ((dats m 0 c).before (3 : Fin 10) t d3)
    ((dats m 0 c).before (4 : Fin 10) t d4)
    ((dats m 0 c).before (5 : Fin 10) t d5)
    ((dats m 0 c).before (6 : Fin 10) t d6)
    ((dats m 0 c).before (7 : Fin 10) t d7)
    ((dats m 0 c).before (8 : Fin 10) t d8)
    ((dats m 0 c).before (9 : Fin 10) t d9) U W hU' _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HU]; · iexact HU
  isplitl [HW]; · iexact HW
  iintro ⟨%W1, H0, H1, H2, H3, H4, H5, H6, H7, H8, H9, HU, HW⟩
  rw [coord1 t]
  isplitl [HU HW Hr]
  · isplitl [HU]
    · iexists (uAll (ub m c t)); isplitr
      · ipureintro
        intro t' ht' _
        rw [show t' = t from Fin.ext (by have : t'.val + 1 = t.val + 1 := ht'; omega)]
      iexact HU
    isplitl [HW]; · iexists W1; iexact HW
    iexact Hr
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (wb m c t)))
    unfold wb
    rw [Window.cut_fill]
  isplitl [H2]; · iexact H2
  isplitl [H3]; · iapply (leaves3 m c t d3 d1); iexact H3
  isplitl [H4]; · iapply (leaves4 m c t d4 d1); iexact H4
  isplitl [H5]; · iapply (leavesT m c 5 rfl t rfl (flush0_5 t) _ d5 (fun h => congrArg partB (tVal_fill m c t d1 h))); iexact H5
  isplitl [H6]; · iapply (leavesT m c 6 rfl t rfl (flush0_6 t) _ d6 (fun h => congrArg partC (tVal_fill m c t d1 h))); iexact H6
  isplitl [H7]; · iapply (leavesT m c 7 rfl t rfl (flush0_7 t) _ d7 (fun h => congrArg partD (tVal_fill m c t d1 h))); iexact H7
  isplitl [H8]; · iapply (leavesQ m c 8 rfl t rfl (flush0_8 t) (cAll (ub m c t)) d8 rfl (fun h => before8_last m c t h d8)); iexact H8
  iapply (leavesQ m c 9 rfl t rfl (flush0_9 t) (sAll (ub m c t)) d9 rfl (fun h => before9_last m c t h d9)); iexact H9

/-- The scratch buffers enter the loop at any contents, -/
theorem scratch_in (c : Dev nD) : (Pipeline.ΦA spec0 c : sProp 𝕄) ⊢ phi m c 0 := by
  unfold Pipeline.ΦA phi
  rw [scopedRest0_eq]
  simp only [owns_whole_eq]
  iintro ⟨⟨⟨%f0, H0⟩, ⟨%f1, H1⟩⟩, Hr⟩
  isplitl [H0]
  · iexists f0; isplitr
    · ipureintro; intro t ht; exact absurd ht (Nat.succ_ne_zero _)
    iexists f0; isplitr; · ipureintro; rfl
    iexact H0
  isplitl [H1]
  · iexists f1; iexists f1; isplitr; · ipureintro; rfl
    iexact H1
  iexact Hr

/-- and leave it so. -/
theorem scratch_out (c : Dev nD) : phi m c (Fin.last cfg0.N) ⊢ (Pipeline.ΦA spec0 c : sProp 𝕄) := by
  unfold Pipeline.ΦA phi
  rw [scopedRest0_eq]
  simp only [owns_whole_eq]
  iintro ⟨⟨%U, -, %f0, -, H0⟩, ⟨%W, %f1, -, H1⟩, Hr⟩
  isplitl [H0 H1]
  · isplitl [H0]
    · iexists f0; iexact H0
    · iexists f1; iexact H1
  iexact Hr

set_option backward.isDefEq.respectTransparency.types false in
/-- The kernel runs to the end and leaves in every array what the proof data says. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => body_obligation m c) (fun c => (dats m 0 c).share_full fun _ => rfl) (fun _ _ => rfl)
    (V0 m) [hostOps1] sfx_sub sfx_fresh sfx_keeps (hmain m Variants.none) (fun _ _ => rfl)
    (scratch_in m) (scratch_out m) _ (fun _ h => h)

end Cert.InProj
end
-- ==== Proof.Frames.lean ====
/- The frames. -/
module

public import proofs.«01_k».proof.Proof.KFrame
public import proofs.«01_k».proof.Defs
public import proofs.«01_k».proof.Proof.Gen.Kernel

@[expose] public section

noncomputable section

namespace Cert.InProj

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel runs to the end, leaves its arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r hr => ⟨fun c => ?_, hr.2⟩) (run_main m ρ)
  have h := hr.1
  exact ⟨((h c).2 main_arg0 (Pipeline.mem_restRefs_of main_arg0 (by decide) (by decide))).trans (W_main_arg0 m (dats m) c),
    ((h c).1 1).trans (((dats m 0 c).arrAt_in 1 rfl _).trans (V_main_arg1 m c)),
    ((h c).1 2).trans (((dats m 0 c).arrAt_in 2 rfl _).trans (V_main_arg2 m c))⟩

/-- The ideal program's frame. -/
theorem frame_ideal : Cert.quiescent_KernelIdeal (hKernelIdeal := Cert.KernelIdeal.Gen.facts) :=
  fun m ρ _ => frame_run m ρ

/-- The printed program and the ideal program are one text: their frames, read at machine floats, are one statement. -/
theorem frame_bits_eq : Cert.quiescent_Kernel (hKernel := Cert.Kernel.Gen.facts)
    = (∀ (m : (ℓ : Loc nD τ sig) → Buf (Elt Bits) ℓ) (g : Dev nD → PrngReg), True →
      θ_run defs (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)) := by
  chain_rfl

/-- The program's own frame. -/
theorem frame_bits : Cert.quiescent_Kernel (hKernel := Cert.Kernel.Gen.facts) :=
  frame_bits_eq.mpr fun m ρ _ => frame_run m ρ

end Cert.InProj
end
-- ==== Proof.Quant.lean ====
/- The quantiser's scale over the extended reals: the kernel finds the power of two above a ratio by comparing it with the
   256 powers of two, the reference by a logarithm; for the ratios that occur both give the same scale and the same inverse. -/
module

public import Idealize.ShloMosaic.PureOps.Ideal
public import Idealize.ShloMosaic.PureOps.Ideal.Laws
public import Idealize.ShloMosaic.PureOps.Reduce
public import Idealize.ShloMosaic.Lib.WordCmp

@[expose] public section

noncomputable section

namespace Cert.InProj

open Idealize.ShloMosaic

/-! ## The kernel's way -/

/-- The number whose bits have lane `l` in the exponent field and nothing else. -/
def lanePow (l : Nat) : EReal := Ideal.ofBits .f32 (IntOp.shli .vector (BitVec.ofNat 32 l) 23#32)

/-- The last of 256 lanes whose power of two `x` reaches, or 0. -/
def kField (x : EReal) : BitVec 32 :=
  (Finset.univ : Finset (Fin 256)).fold IKind.maxsi.op 2147483648#32 fun l => if lanePow l.val ≤ x then BitVec.ofNat 32 l.val else 0#32

/-- The exponent field with the extremes taken for that of one half. -/
def kExp (e : BitVec 32) : BitVec 32 := if e = 0#32 ∨ e = 255#32 then 126#32 else e

/-- The kernel's scale for a ratio, -/
def kScale (x : EReal) : EReal := Ideal.ofBits .f32 (IntOp.shli .vector (kExp (kField x) + 1#32) 23#32)
/-- and its inverse. -/
def kInv (x : EReal) : EReal := Ideal.ofBits .f32 (IntOp.shli .vector (253#32 - kExp (kField x)) 23#32)

/-! ## The reference's way -/

/-- The scale's exponent by a logarithm. -/
def rExp (x : EReal) : EReal :=
  if x < Ideal.ofBits .f32 0x00800000#32 then Ideal.ofBits .f32 0x00000000#32
  else Ideal.liftRound Int.floor (Ideal.div (Ideal.log x) (Ideal.log (Ideal.ofBits .f32 0x40000000#32))) + Ideal.ofBits .f32 0x3F800000#32
/-- The reference's scale, -/
def rScale (x : EReal) : EReal := Ideal.exp2 (rExp x)
/-- and its inverse. -/
def rInv (x : EReal) : EReal := Ideal.exp2 (Ideal.ofBits .f32 0x00000000#32 - rExp x)

/-! ## They agree -/

theorem lane_bits : ∀ l : Fin 256, ((IntOp.shli .vector (BitVec.ofNat 32 l.val) 23#32).extractLsb' 31 1 == 1#1) = false
    ∧ ((IntOp.shli .vector (BitVec.ofNat 32 l.val) 23#32).extractLsb' 23 8).toNat = l.val
    ∧ ((IntOp.shli .vector (BitVec.ofNat 32 l.val) 23#32).extractLsb' 0 23).toNat = 0 := by
  decide +kernel

/-- A word of exponent field `l` and no other bits is a power of two, -/
theorem ieee_pow (b : BitVec 32) {l : Nat} (h1 : (b.extractLsb' 31 1 == 1#1) = false) (h2 : (b.extractLsb' 23 8).toNat = l)
    (h3 : (b.extractLsb' 0 23).toNat = 0) (h0 : 0 < l) (h : l < 255) : Ideal.ieee 8 23 b = (((2 : ℝ) ^ ((l : ℤ) - 127) : ℝ) : EReal) := by
  unfold Ideal.ieee
  dsimp only
  rw [h1, h2, h3]
  rw [if_neg (by omega), if_neg (by omega)]
  congr 1
  simp only [Bool.false_eq_true, if_false, one_mul, Nat.add_zero]
  rw [Nat.cast_pow, Nat.cast_ofNat, ← zpow_natCast (2 : ℝ) 23, ← zpow_add₀ (by norm_num)]
  congr 1
  push_cast
  ring

/-- infinite when the field is all ones. -/
theorem ieee_top (b : BitVec 32) (h1 : (b.extractLsb' 31 1 == 1#1) = false) (h2 : (b.extractLsb' 23 8).toNat = 255)
    (h3 : (b.extractLsb' 0 23).toNat = 0) : Ideal.ieee 8 23 b = ⊤ := by
  unfold Ideal.ieee
  dsimp only
  rw [h1, h2, h3]
  rfl

/-- A lane's number is its power of two, -/
theorem lanePow_eq {l : Nat} (h0 : 0 < l) (h : l < 255) : lanePow l = (((2 : ℝ) ^ ((l : ℤ) - 127) : ℝ) : EReal) := by
  obtain ⟨h1, h2, h3⟩ := lane_bits ⟨l, by omega⟩
  exact ieee_pow (IntOp.shli .vector (BitVec.ofNat 32 l) 23#32) h1 h2 h3 h0 h

/-- infinite in the last lane. -/
theorem lanePow_last : lanePow 255 = ⊤ := by
  obtain ⟨h1, h2, h3⟩ := lane_bits ⟨255, by omega⟩
  exact ieee_top (IntOp.shli .vector (BitVec.ofNat 32 255) 23#32) h1 h2 h3

theorem maxsi_toInt (a b : BitVec 32) : (IKind.maxsi.op a b).toInt = max a.toInt b.toInt := by
  show (if b.slt a then a else b).toInt = _
  by_cases h : b.toInt < a.toInt
  · rw [if_pos (by rw [BitVec.slt_iff_toInt_lt]; exact h), max_eq_left h.le]
  · rw [if_neg (by rw [BitVec.slt_iff_toInt_lt]; exact h), max_eq_right (not_lt.mp h)]

/-- The lane the kernel finds, when it is known which one it is. -/
theorem kField_eq (x : EReal) (n : Nat) (hn : n < 256) (h1 : n = 0 ∨ lanePow n ≤ x) (h2 : ∀ l, n < l → l < 256 → ¬ lanePow l ≤ x) :
    kField x = BitVec.ofNat 32 n := by
  have ti : ∀ l : Nat, l < 256 → (BitVec.ofNat 32 l).toInt = (l : Int) := fun l hl => by
    rw [BitVec.toInt_ofNat']; exact Int.bmod_eq_of_le (by omega) (by omega)
  apply BitVec.eq_of_toInt_eq
  rw [ti n hn]
  unfold kField
  rw [← Finset.fold_hom (op := IKind.maxsi.op) (op' := max) (m := BitVec.toInt) maxsi_toInt]
  apply le_antisymm
  · rw [Finset.fold_max_le]
    refine ⟨by have : (2147483648#32 : BitVec 32).toInt = -2147483648 := by decide
               omega, fun l _ => ?_⟩
    split
    · rename_i h
      rw [ti _ l.isLt]
      by_contra hc
      exact h2 l.val (by omega) l.isLt h
    · show (0 : Int) ≤ _
      omega
  · rw [Finset.le_fold_max]
    refine .inr ⟨⟨n, hn⟩, Finset.mem_univ _, ?_⟩
    rcases h1 with h1 | h1
    · subst h1
      split
      · rw [ti _ hn]
      · show (0 : Int) ≤ 0
        omega
    · rw [if_pos h1, ti _ hn]

theorem ofBits_min_normal : Ideal.ofBits .f32 0x00800000#32 = (((2 : ℝ) ^ (-126 : ℤ) : ℝ) : EReal) := by
  have := lanePow_eq (l := 1) (by omega) (by omega)
  rw [show (0x00800000#32 : BitVec 32) = IntOp.shli .vector (BitVec.ofNat 32 1) 23#32 from by decide]
  exact this.trans (by norm_num)

theorem ofBits_two : Ideal.ofBits .f32 0x40000000#32 = ((2 : ℝ) : EReal) := by
  have := lanePow_eq (l := 128) (by omega) (by omega)
  rw [show (0x40000000#32 : BitVec 32) = IntOp.shli .vector (BitVec.ofNat 32 128) 23#32 from by decide]
  exact this.trans (by norm_num)

theorem ofBits_one : Ideal.ofBits .f32 0x3F800000#32 = ((1 : ℝ) : EReal) := by
  have := lanePow_eq (l := 127) (by omega) (by omega)
  rw [show (0x3F800000#32 : BitVec 32) = IntOp.shli .vector (BitVec.ofNat 32 127) 23#32 from by decide]
  exact this.trans (by norm_num)

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- The kernel's scale and inverse when the lane it finds is `n` and is none of the extremes. -/
theorem kScale_of {x : EReal} {n : Nat} (h0 : 0 < n) (hn : n < 253) (h : kExp (kField x) = BitVec.ofNat 32 n) :
    kScale x = (((2 : ℝ) ^ ((n : ℤ) - 126) : ℝ) : EReal) ∧ kInv x = (((2 : ℝ) ^ (126 - (n : ℤ)) : ℝ) : EReal) := by
  constructor
  · unfold kScale
    rw [h, show (BitVec.ofNat 32 n + 1#32 : BitVec 32) = BitVec.ofNat 32 (n + 1) from by
      apply BitVec.eq_of_toNat_eq; rw [BitVec.toNat_add]; simp]
    refine (lanePow_eq (l := n + 1) (by omega) (by omega)).trans ?_
    congr 2; push_cast; ring
  · unfold kInv
    rw [h, show (253#32 - BitVec.ofNat 32 n : BitVec 32) = BitVec.ofNat 32 (253 - n) from by
      apply BitVec.eq_of_toNat_eq; rw [BitVec.toNat_sub, BitVec.toNat_ofNat, BitVec.toNat_ofNat, BitVec.toNat_ofNat]; omega]
    refine (lanePow_eq (l := 253 - n) (by omega) (by omega)).trans ?_
    congr 2
    rw [Nat.cast_sub (by omega)]; push_cast; ring

/-- Of a ratio below `2 ^ 126` kernel and reference make the same scale and the same inverse. -/
theorem scale_agree (r : ℝ) (h0 : 0 ≤ r) (h : r < (2 : ℝ) ^ (126 : ℤ)) : kScale (r : EReal) = rScale r ∧ kInv (r : EReal) = rInv r := by
  have lt_of : ∀ l : ℕ, 0 < l → l < 256 → r < (2 : ℝ) ^ ((l : ℤ) - 127) → ¬ lanePow l ≤ (r : EReal) := by
    intro l hl0 hl hlt hle
    rcases Nat.lt_or_ge l 255 with h' | h'
    · rw [lanePow_eq hl0 h', EReal.coe_le_coe_iff] at hle; linarith
    · obtain rfl : l = 255 := by omega
      rw [lanePow_last] at hle
      exact absurd (top_le_iff.mp hle) (EReal.coe_ne_top r)
  unfold rScale rInv rExp
  simp only [ofBits_min_normal, ofBits_two, ofBits_one, Ideal.ofBits_zero_f32, EReal.coe_lt_coe_iff]
  by_cases hs : r < (2 : ℝ) ^ (-126 : ℤ)
  · -- below the smallest normal number: the scale is one
    rw [if_pos hs]
    have hf : kField (r : EReal) = BitVec.ofNat 32 0 := by
      refine kField_eq _ 0 (by omega) (.inl rfl) fun l hl hl' => lt_of l hl hl' (lt_of_lt_of_le hs ?_)
      exact zpow_le_zpow_right₀ (by norm_num) (by omega)
    obtain ⟨e1, e2⟩ := kScale_of (x := (r : EReal)) (n := 126) (by omega) (by omega) (by rw [hf]; rfl)
    rw [e1, e2]
    have := exp2_int 0
    simp only [Int.cast_zero, EReal.coe_zero, zpow_zero] at this
    rw [sub_zero, this]
    norm_num
  · rw [if_neg hs]
    have hs' := not_lt.mp hs
    have hr : 0 < r := lt_of_lt_of_le (by positivity) hs'
    obtain ⟨N, hlo, hhi⟩ := exists_mem_Ico_zpow (y := (2 : ℝ)) hr (by norm_num)
    have hN1 : -126 ≤ N := by
      by_contra hc
      have : (2 : ℝ) ^ (N + 1) ≤ (2 : ℝ) ^ (-126 : ℤ) := zpow_le_zpow_right₀ (by norm_num) (by omega)
      linarith
    have hN2 : N < 126 := by
      by_contra hc
      have : (2 : ℝ) ^ (126 : ℤ) ≤ (2 : ℝ) ^ N := zpow_le_zpow_right₀ (by norm_num) (by omega)
      linarith
    have hlog : Ideal.liftRound Int.floor (Ideal.div (Ideal.log (r : EReal)) (Ideal.log ((2 : ℝ) : EReal))) = ((N : ℝ) : EReal) := by
      have e1 : Ideal.log (r : EReal) = ((Real.log r : ℝ) : EReal) := by
        show (if r ≤ 0 then ⊥ else ((Real.log r : ℝ) : EReal)) = _
        rw [if_neg (not_le.mpr hr)]
      have e2 : Ideal.log ((2 : ℝ) : EReal) = ((Real.log 2 : ℝ) : EReal) := by
        show (if (2 : ℝ) ≤ 0 then ⊥ else ((Real.log 2 : ℝ) : EReal)) = _
        rw [if_neg (by norm_num)]
      have h2 : Real.log 2 ≠ 0 := (Real.log_pos (by norm_num)).ne'
      rw [e1, e2]
      unfold Ideal.div
      rw [if_neg (by exact_mod_cast h2), ← EReal.coe_inv, ← EReal.coe_mul]
      show (((⌊Real.log r * (Real.log 2)⁻¹⌋ : ℤ) : ℝ) : EReal) = _
      have hp : 0 < Real.log 2 := Real.log_pos (by norm_num)
      have e : ⌊Real.log r * (Real.log 2)⁻¹⌋ = N := by
        rw [← div_eq_mul_inv, Int.floor_eq_iff, le_div_iff₀ hp, div_lt_iff₀ hp]
        constructor
        · rw [← Real.log_zpow]; exact Real.log_le_log (by positivity) hlo
        · have := Real.log_lt_log hr hhi
          rw [Real.log_zpow] at this
          push_cast at this
          exact this
      rw [e]
    rw [hlog]
    obtain ⟨n, hn⟩ : ∃ n : ℕ, (n : ℤ) = N + 127 := ⟨(N + 127).toNat, by omega⟩
    have hf : kField (r : EReal) = BitVec.ofNat 32 n := by
      refine kField_eq _ n (by omega) (.inr ?_) fun l hl hl' => lt_of l (by omega) hl' (lt_of_lt_of_le hhi ?_)
      · rw [lanePow_eq (by omega) (by omega), EReal.coe_le_coe_iff, show ((n : ℤ) - 127) = N from by omega]; exact hlo
      · exact zpow_le_zpow_right₀ (by norm_num) (by omega)
    have hne : ∀ k : Nat, k < 256 → n ≠ k → BitVec.ofNat 32 n ≠ BitVec.ofNat 32 k := fun k hk hne e => by
      have := congrArg BitVec.toNat e
      rw [BitVec.toNat_ofNat, BitVec.toNat_ofNat] at this
      omega
    obtain ⟨e1, e2⟩ := kScale_of (x := (r : EReal)) (n := n) (by omega) (by omega) (by
      rw [hf]; unfold kExp
      rw [if_neg]; rintro (e | e)
      · exact hne 0 (by omega) (by omega) e
      · exact hne 255 (by omega) (by omega) e)
    rw [e1, e2]
    have hx : (((N : ℝ) : EReal) + ((1 : ℝ) : EReal)) = (((N + 1 : ℤ) : ℝ) : EReal) := by push_cast; rfl
    have hx' : ((0 : EReal) - (((N + 1 : ℤ) : ℝ) : EReal)) = (((-(N + 1) : ℤ) : ℝ) : EReal) := by
      rw [zero_sub, Int.cast_neg (N + 1), EReal.coe_neg]
    rw [hx, hx', exp2_int, exp2_int]
    constructor
    · congr 2; omega
    · congr 2; omega

end Cert.InProj
end
-- ==== Proof.Spec.lean ====
/- The projection as plain mathematics over the extended reals: one quantiser per group of 128 columns of a row, and one
   sum per output column. Activations, weights and scales are functions of their row and column numbers. -/
module

public import proofs.«01_k».proof.Proof.Quant

@[expose] public section

noncomputable section

namespace Cert.InProj

open Idealize.ShloMosaic
open scoped BigOperators

/-- The largest magnitude of a group of 128 values. -/
def amax (v : Fin 128 → EReal) : EReal :=
  (Finset.univ : Finset (Fin 128)).fold max (Ideal.ofBits .f32 0xFF800000#32) fun k => max (v k) (-(v k))
/-- That over 448 (as float32 has it). -/
def ratio (v : Fin 128 → EReal) : EReal := amax v * Ideal.ofBits .f32 0x3B124925#32
/-- A value times its group's inverse scale, clipped to the codes' range. -/
def code (x inv : EReal) : EReal := min (Ideal.ofBits .f32 0x43E00000#32) (max (Ideal.ofBits .f32 0xC3E00000#32) (x * inv))

/-- The values of group `g` of row `R`. -/
def grpOf (U : Nat → Nat → EReal) (R g : Nat) : Fin 128 → EReal := fun k => U R (128 * g + k.val)

/-- The scale of group `g` of row `R`. -/
def scaleS (U : Nat → Nat → EReal) (R g : Nat) : EReal := rScale (ratio (grpOf U R g))
/-- The code at row `R`, column `c`. -/
def codeS (U : Nat → Nat → EReal) (R c : Nat) : EReal := code (U R c) (rInv (ratio (grpOf U R (c / 128))))
/-- The projection at row `R`, output column `n`: the codes scaled back times the weights scaled back. -/
def projS (U W S : Nat → Nat → EReal) (R n : Nat) : EReal :=
  ∑ k : Fin 5632, codeS U R k.val * scaleS U R (k.val / 128) * (W n k.val * S (n / 128) (k.val / 128))

/-! ## A bound on the ratio -/

/-- A finite positive float32, with its size up to a factor of two. -/
theorem ieee_normal (b : BitVec 32) {l : Nat} (h1 : (b.extractLsb' 31 1 == 1#1) = false) (h2 : (b.extractLsb' 23 8).toNat = l)
    (h0 : 0 < l) (h : l < 255) : ∃ x : ℝ, Ideal.ieee 8 23 b = (x : EReal) ∧ 0 ≤ x ∧ x < (2 : ℝ) ^ ((l : ℤ) - 126) := by
  have hf : (b.extractLsb' 0 23).toNat < 2 ^ 23 := (b.extractLsb' 0 23).isLt
  refine ⟨((2 ^ 23 + (b.extractLsb' 0 23).toNat : Nat) : ℝ) * (2 : ℝ) ^ ((l : ℤ) - 150), ?_, by positivity, ?_⟩
  · unfold Ideal.ieee
    dsimp only
    rw [h1, h2]
    rw [if_neg (by omega), if_neg (by omega)]
    congr 1
    simp only [Bool.false_eq_true, if_false, one_mul]
    congr 2
    norm_num
    ring
  · have : ((2 ^ 23 + (b.extractLsb' 0 23).toNat : Nat) : ℝ) < (2 : ℝ) ^ (24 : ℤ) := by
      have : 2 ^ 23 + (b.extractLsb' 0 23).toNat < 2 ^ 24 := by omega
      calc ((2 ^ 23 + (b.extractLsb' 0 23).toNat : Nat) : ℝ) < ((2 ^ 24 : Nat) : ℝ) := by exact_mod_cast this
        _ = (2 : ℝ) ^ (24 : ℤ) := by norm_num
    calc _ < (2 : ℝ) ^ (24 : ℤ) * (2 : ℝ) ^ ((l : ℤ) - 150) := mul_lt_mul_of_pos_right this (by positivity)
      _ = (2 : ℝ) ^ ((l : ℤ) - 126) := by
        rw [← zpow_add₀ (by norm_num)]; congr 1; ring

theorem ofBits_448th : ∃ x : ℝ, Ideal.ofBits .f32 0x3B124925#32 = (x : EReal) ∧ 0 ≤ x ∧ x < (2 : ℝ) ^ (-8 : ℤ) := by
  have := ieee_normal (0x3B124925#32 : BitVec 32) (l := 118) (by decide) (by decide) (by omega) (by omega)
  exact this

theorem ofBits_big : ∃ x : ℝ, Ideal.ofBits .f32 0x7F7F0000#32 = (x : EReal) ∧ 0 ≤ x ∧ x < (2 : ℝ) ^ (128 : ℤ) := by
  have := ieee_normal (0x7F7F0000#32 : BitVec 32) (l := 254) (by decide) (by decide) (by omega) (by omega)
  exact this

theorem ofBits_bot : Ideal.ofBits .f32 0xFF800000#32 = ⊥ := by
  have h : ∀ (b : BitVec 32), (b.extractLsb' 31 1 == 1#1) = true → (b.extractLsb' 23 8).toNat = 255 → (b.extractLsb' 0 23).toNat = 0 →
      Ideal.ieee 8 23 b = ⊥ := by
    intro b h1 h2 h3
    unfold Ideal.ieee
    dsimp only
    rw [h1, h2, h3]
    rfl
  exact h (0xFF800000#32 : BitVec 32) (by decide) (by decide) (by decide)

/-- The ratio of a group of values none of which passes the largest bfloat16 is a real number well inside float32's range. -/
theorem ratio_bound (v : Fin 128 → EReal) (hv : ∀ k, max (v k) (-(v k)) ≤ Ideal.ofBits .f32 0x7F7F0000#32) :
    ∃ r : ℝ, ratio v = (r : EReal) ∧ 0 ≤ r ∧ r < (2 : ℝ) ^ (126 : ℤ) := by
  obtain ⟨c, hc, c0, c1⟩ := ofBits_448th
  obtain ⟨M, hM, M0, M1⟩ := ofBits_big
  have h0 : (0 : EReal) ≤ amax v := by
    unfold amax
    rw [Finset.le_fold_max]
    refine .inr ⟨0, Finset.mem_univ _, ?_⟩
    rcases le_total (0 : EReal) (v 0) with h | h
    · exact le_max_of_le_left h
    · exact le_max_of_le_right (by rw [EReal.le_neg]; simpa using h)
  have h1 : amax v ≤ (M : EReal) := by
    unfold amax
    rw [Finset.fold_max_le]
    exact ⟨by rw [ofBits_bot]; exact bot_le, fun k _ => hM ▸ hv k⟩
  obtain ⟨a, ha⟩ : ∃ a : ℝ, amax v = (a : EReal) :=
    ⟨(amax v).toReal, (EReal.coe_toReal (fun h => by rw [h] at h1; exact absurd h1 (not_le.mpr (EReal.coe_lt_top M)))
      (fun h => by rw [h] at h0; exact absurd h0 (not_le.mpr EReal.bot_lt_zero))).symm⟩
  rw [ha] at h0 h1
  have h0 : 0 ≤ a := by exact_mod_cast h0
  have h1 : a ≤ M := by exact_mod_cast h1
  refine ⟨a * c, ?_, mul_nonneg h0 c0, ?_⟩
  · unfold ratio; rw [ha, hc, EReal.coe_mul]
  · calc a * c ≤ M * c := mul_le_mul_of_nonneg_right h1 c0
      _ ≤ (2 : ℝ) ^ (128 : ℤ) * c := mul_le_mul_of_nonneg_right M1.le c0
      _ < (2 : ℝ) ^ (128 : ℤ) * (2 : ℝ) ^ (-8 : ℤ) := mul_lt_mul_of_pos_left c1 (by positivity)
      _ ≤ (2 : ℝ) ^ (126 : ℤ) := by
        rw [← zpow_add₀ (by norm_num)]
        exact zpow_le_zpow_right₀ (by norm_num) (by norm_num)

/-- For such a group the kernel's scale and inverse are the reference's. -/
theorem kScale_eq (v : Fin 128 → EReal) (hv : ∀ k, max (v k) (-(v k)) ≤ Ideal.ofBits .f32 0x7F7F0000#32) :
    kScale (ratio v) = rScale (ratio v) ∧ kInv (ratio v) = rInv (ratio v) := by
  obtain ⟨r, hr, h0, h1⟩ := ratio_bound v hv
  rw [hr]
  exact scale_agree r h0 h1

end Cert.InProj
end
-- ==== Proof.KVec.lean ====
/- What the kernel's steps compute over the extended reals, element by element. -/
module

public import proofs.«01_k».proof.Proof.Body
public import proofs.«01_k».proof.Proof.Spec
public import Idealize.ShloMosaic.Lib.ValueLayoutCasts
public import Idealize.ShloMosaic.Lib.MatmulPlain

@[expose] public section

noncomputable section

namespace Cert.InProj

open Idealize.ShloMosaic Cert.KernelIdeal
open Cert.KernelIdeal.Facts Cert.KernelIdeal.K0.Facts₀ Cert.KernelIdeal.Shapes1.Facts₀
open Idealize.ShloMosaic.VecWindow Idealize.ShloMosaic.ValueIdx
open scoped BigOperators

variable [Facts]

/-- A column's entry is its row's. -/
theorem col_apply {α : Type} {n : Nat} (x : S512x1.Idx → α) (h : S512x1.Broadcasts ⟨2, ![512, n]⟩) (r : Fin 512) (k : Fin n) :
    broadcastTo ⟨2, ![512, n]⟩ x h (ix2 r k) = x (ix2 r (0 : Fin 1)) := by
  refine broadcastTo_apply x h _ _ fun a => ?_
  match a with
  | ⟨0, _⟩ => rfl
  | ⟨1, _⟩ => rfl

theorem qVal_apply (X : Vec Ideal S512x128 .bf16) (i : S512x128.Idx) : qVal X i = X i := by
  unfold qVal
  rw [shapeCast_self]
  rfl

/-- Where a row's reduction reads. -/
theorem lift128 (h : S512x128.Reduces [1] S512) (r : Fin 512) (k : Fin 128) : h.lift (ix1 r) k = ix2 r k := by
  funext a
  match a with
  | ⟨0, _⟩ => rfl
  | ⟨1, _⟩ => rfl

theorem lift256 (h : S512x256.Reduces [1] S512) (r : Fin 512) (k : Fin 256) : h.lift (ix1 r) k = ix2 r k := by
  funext a
  match a with
  | ⟨0, _⟩ => rfl
  | ⟨1, _⟩ => rfl

theorem qRatio_apply (X : Vec Ideal S512x128 .bf16) (r : Fin 512) : qRatio X (ix2 r (0 : Fin 1)) = ratio fun k => X (ix2 r k) := by
  unfold qRatio ratio amax
  refine congrArg (fun x : EReal => x * Ideal.ofBits .f32 0x3B124925#32) ?_
  refine (shapeCast_a_a1_apply _ _ r (0 : Fin 1)).trans ?_
  refine (Ideal.multiReduction_maximumf_single (absf (qVal X)) 0xFF800000#32 reduces_S512x128_S512 (.inl rfl) rfl (ix1 r)).trans ?_
  refine Finset.fold_congr fun (k : Fin 128) _ => ?_
  show absf (qVal X) (reduces_S512x128_S512.lift (ix1 r) k) = _
  rw [lift128]
  show max (qVal X (ix2 r k)) (-(qVal X (ix2 r k))) = _
  rw [qVal_apply]

/-- The integer maximum of a row. -/
theorem rowMax_apply (x : IVec S512x256 32) (r : Fin 512) :
    multiReductionI .maxsi [1] S512 x 2147483648#32 reduces_S512x256_S512 rfl (ix1 r)
      = (Finset.univ : Finset (Fin 256)).fold IKind.maxsi.op 2147483648#32 fun l => x (ix2 r l) := by
  refine (multiReductionI_eq_fold .maxsi x 2147483648#32 reduces_S512x256_S512 rfl (ix1 r)).trans ?_
  refine (reduces_S512x256_S512.fold_filter_drop_single IKind.maxsi.op 2147483648#32 x (ix1 r)).trans ?_
  refine Finset.fold_congr fun (l : Fin 256) _ => ?_
  exact congrArg x (lift256 _ r l)

/-- One lane of the comparison with the powers of two. -/
theorem lane_apply (X : Vec Ideal S512x128 .bf16) (r : Fin 512) (l : Fin 256) :
    (select (cmpf .oge (broadcastTo S512x256 (qRatio X) broadcasts_S512x1_S512x256)
        (bitcastToFloat .f32 (shli (iota .tc S512x256 32 [1] iota_S512x256_d1_w32) (broadcast S512x256 23#32))))
      (iota .tc S512x256 32 [1] iota_S512x256_d1_w32) (broadcast S512x256 0#32) : IVec S512x256 32) (ix2 r l)
      = if lanePow l.val ≤ ratio fun k => X (ix2 r k) then BitVec.ofNat 32 l.val else 0#32 := by
  have e : broadcastTo S512x256 (qRatio X) broadcasts_S512x1_S512x256 (ix2 r l) = ratio fun k => X (ix2 r k) :=
    (col_apply _ _ r l).trans (qRatio_apply X r)
  have i : iota .tc S512x256 32 [1] iota_S512x256_d1_w32 (ix2 r l) = BitVec.ofNat 32 l.val := iota_single_apply _ _ _ _ _ _
  refine Eq.trans (b := Scalar.select (FloatOps.cmpf .oge (broadcastTo S512x256 (qRatio X) broadcasts_S512x1_S512x256 (ix2 r l))
    (Ideal.ofBits .f32 (IntOp.shli .vector (iota .tc S512x256 32 [1] iota_S512x256_d1_w32 (ix2 r l)) 23#32) : Ideal .f32))
      (iota .tc S512x256 32 [1] iota_S512x256_d1_w32 (ix2 r l)) 0#32) rfl ?_
  rw [e, i]
  refine Eq.trans (b := Scalar.select (BitVec.ofBool (decide (lanePow l.val ≤ ratio fun k => X (ix2 r k)))) (BitVec.ofNat 32 l.val) 0#32) rfl ?_
  by_cases h : lanePow l.val ≤ ratio fun k => X (ix2 r k)
  · rw [if_pos h, decide_eq_true h]; rfl
  · rw [if_neg h, decide_eq_false h]; rfl

theorem qField_apply (X : Vec Ideal S512x128 .bf16) (r : Fin 512) : qField X (ix2 r (0 : Fin 1)) = kField (ratio fun k => X (ix2 r k)) := by
  unfold qField kField
  refine (shapeCast_a_a1_apply _ _ r (0 : Fin 1)).trans ?_
  refine (rowMax_apply _ r).trans ?_
  exact Finset.fold_congr fun l _ => lane_apply X r l

theorem qExp_apply (X : Vec Ideal S512x128 .bf16) (r : Fin 512) : qExp X (ix2 r (0 : Fin 1)) = kExp (kField (ratio fun k => X (ix2 r k))) := by
  unfold qExp
  show Scalar.select (IntOp.ori (IntOp.cmpi .eq (qField X (ix2 r (0 : Fin 1))) 0#32) (IntOp.cmpi .eq (qField X (ix2 r (0 : Fin 1))) 255#32)) 126#32 (qField X (ix2 r (0 : Fin 1))) = _
  rw [qField_apply]
  generalize kField _ = e
  unfold kExp
  show Scalar.select (BitVec.ofBool (e == 0#32) ||| BitVec.ofBool (e == 255#32)) _ _ = _
  by_cases h0 : e = 0#32
  · subst h0; rfl
  · by_cases h1 : e = 255#32
    · subst h1; rfl
    · rw [if_neg (by rintro (h | h) <;> contradiction), beq_false_of_ne h0, beq_false_of_ne h1]; rfl

theorem qScale_apply (X : Vec Ideal S512x128 .bf16) (r : Fin 512) : qScale X (ix2 r (0 : Fin 1)) = kScale (ratio fun k => X (ix2 r k)) := by
  unfold qScale kScale
  show Ideal.ofBits .f32 (IntOp.shli .vector (qExp X (ix2 r (0 : Fin 1)) + 1#32) 23#32) = _
  rw [qExp_apply]

theorem qInv_apply (X : Vec Ideal S512x128 .bf16) (r : Fin 512) : qInv X (ix2 r (0 : Fin 1)) = kInv (ratio fun k => X (ix2 r k)) := by
  unfold qInv kInv
  show Ideal.ofBits .f32 (IntOp.shli .vector (253#32 - qExp X (ix2 r (0 : Fin 1))) 23#32) = _
  rw [qExp_apply]

theorem qCodes_apply (X : Vec Ideal S512x128 .bf16) (r : Fin 512) (k : Fin 128) :
    qCodes X (ix2 r k) = code (X (ix2 r k)) (kInv (ratio fun k => X (ix2 r k))) := by
  unfold qCodes code
  show min (Ideal.ofBits .f32 0x43E00000#32) (max (Ideal.ofBits .f32 0xC3E00000#32) (qVal X (ix2 r k) * broadcastTo S512x128 (qInv X) _ (ix2 r k))) = _
  rw [qVal_apply, show broadcastTo S512x128 (qInv X) broadcasts_S512x1_S512x128 (ix2 r k) = qInv X (ix2 r (0 : Fin 1)) from col_apply _ _ r k, qInv_apply]

theorem qDeq_apply (X : Vec Ideal S512x128 .bf16) (r : Fin 512) (k : Fin 128) :
    qDeq X (ix2 r k) = qCodes X (ix2 r k) * qScale X (ix2 r (0 : Fin 1)) := by
  unfold qDeq
  rw [shapeCast_self]
  show qCodes X (ix2 r k) * broadcastTo S512x128 _ _ (ix2 r k) = _
  rw [show broadcastTo S512x128 (truncf .bf16 (qScale X) bitsLt_bf16_f32) broadcasts_S512x1_S512x128 (ix2 r k) = _ from col_apply _ _ r k]
  rfl

/-! ## A row block -/

variable (U : Nat → Nat → EReal) (hU : ∀ R c, max (U R c) (-(U R c)) ≤ Ideal.ofBits .f32 0x7F7F0000#32)

/-- The row block `X` holds rows `R0 …` of the activations. -/
def Rows (X : Vec Ideal S512x5632 .bf16) (R0 : Nat) : Prop :=
  ∀ (r : Fin 512) (c : Fin 5632), X (ix2 r c) = U (R0 + r.val) c.val

variable {U}

theorem grp_row {X : Vec Ideal S512x5632 .bf16} {R0 : Nat} (hX : Rows U X R0) (r : Fin 512) {g : Nat} (hg : g < 44) :
    (fun k : Fin 128 => grp X g (ix2 r k)) = grpOf U (R0 + r.val) g := by
  funext k
  unfold grp grpOf
  refine (hX ⟨r.val, r.isLt⟩ ⟨min (128 * g + k.val) 5631, by omega⟩).trans ?_
  show U _ (min (128 * g + k.val) 5631) = _
  rw [Nat.min_eq_left (by omega)]

include hU

/-- The row block's scales, -/
theorem sAll_apply {X : Vec Ideal S512x5632 .bf16} {R0 : Nat} (hX : Rows U X R0) (r : Fin 512) (g : Fin 44) :
    sAll X (ix2 r g) = scaleS U (R0 + r.val) g.val := by
  unfold sAll scaleS
  refine (qScale_apply (grp X g.val) r).trans ?_
  rw [grp_row hX r g.isLt]
  exact (kScale_eq _ fun k => hU _ _).1

/-- codes, -/
theorem cAll_apply {X : Vec Ideal S512x5632 .bf16} {R0 : Nat} (hX : Rows U X R0) (r : Fin 512) (c : Fin 5632) :
    cAll X (ix2 r c) = codeS U (R0 + r.val) c.val := by
  unfold cAll codeS
  refine (qCodes_apply (grp X (c.val / 128)) r ⟨c.val % 128, Nat.mod_lt _ (by decide)⟩).trans ?_
  have h := grp_row hX r (g := c.val / 128) (by omega)
  rw [h, (kScale_eq (grpOf U (R0 + r.val) (c.val / 128)) fun k => hU _ _).2]
  congr 1
  refine (congrFun h ⟨c.val % 128, Nat.mod_lt _ (by decide)⟩).trans ?_
  unfold grpOf
  congr 1
  show 128 * (c.val / 128) + c.val % 128 = c.val
  omega

/-- and codes scaled back. -/
theorem uAll_apply {X : Vec Ideal S512x5632 .bf16} {R0 : Nat} (hX : Rows U X R0) (r : Fin 512) (c : Fin 5632) :
    uAll X (ix2 r c) = codeS U (R0 + r.val) c.val * scaleS U (R0 + r.val) (c.val / 128) := by
  unfold uAll
  refine (qDeq_apply (grp X (c.val / 128)) r ⟨c.val % 128, Nat.mod_lt _ (by decide)⟩).trans ?_
  congr 1
  · exact cAll_apply hU hX r c
  · exact sAll_apply hU hX r ⟨c.val / 128, by omega⟩

omit hU

/-! ## A weight block -/

variable {W S : Nat → Nat → EReal}

/-- The scaled weights of row `r` of block `j`, once the block and the scales are known. -/
theorem wAll_apply {j : Nat} {X3 : Vec Ideal S1024x5632 .fp8e4m3} {X4 : Vec Ideal S131x44 .f32}
    (h4 : ∀ (a : Fin 131) (b : Fin 44), X4 (ix2 a b) = S a.val b.val) (r : Fin 1024) (hr : 1024 * j + r.val < 16768) (k : Fin 5632)
    (h3 : X3 (ix2 r k) = W (1024 * j + r.val) k.val) :
    wAll j X3 X4 (ix2 r k) = W (1024 * j + r.val) k.val * S ((1024 * j + r.val) / 128) (k.val / 128) := by
  unfold wAll wEl wsAt
  show X3 (ix2 r k) * X4 (ix2 ⟨min (8 * j + r.val / 128) 130, _⟩ ⟨min (k.val / 128) 43, _⟩) = _
  rw [h3, h4]
  congr 2
  · show min (8 * j + r.val / 128) 130 = _
    omega
  · show min (k.val / 128) 43 = _
    omega

include hU

/-- A block of a wide result. -/
theorem zOut_apply {j : Nat} {X : Vec Ideal S512x5632 .bf16} {R0 : Nat} (hX : Rows U X R0) {X3 : Vec Ideal S1024x5632 .fp8e4m3} {X4 : Vec Ideal S131x44 .f32}
    (h4 : ∀ (a : Fin 131) (b : Fin 44), X4 (ix2 a b) = S a.val b.val) (r : Fin 512) (n : Fin 1024) (hn : 1024 * j + n.val < 16768)
    (h3 : ∀ k : Fin 5632, X3 (ix2 n k) = W (1024 * j + n.val) k.val) :
    zOut (uAll X) (wAll j X3 X4) (ix2 r n) = projS U W S (R0 + r.val) (1024 * j + n.val) := by
  unfold zOut projS
  refine (Ideal.matmul_transposedRhs_apply (φ₁ := .bf16) (φ₂ := .bf16) none (uAll X) (wAll j X3 X4) _ r n).trans ?_
  show Ideal.ofBits .f32 0x00000000#32 + _ = _
  rw [Ideal.ofBits_zero_f32, zero_add]
  exact Finset.sum_congr rfl fun k _ => by rw [uAll_apply hU hX, wAll_apply h4 n hn k (h3 k)]

/-- A block of the narrow results side by side. -/
theorem tailDot_apply {j : Nat} {X : Vec Ideal S512x5632 .bf16} {R0 : Nat} (hX : Rows U X R0) {X3 : Vec Ideal S1024x5632 .fp8e4m3} {X4 : Vec Ideal S131x44 .f32}
    (h4 : ∀ (a : Fin 131) (b : Fin 44), X4 (ix2 a b) = S a.val b.val) (r : Fin 512) (n : Fin 384) (hn : 1024 * j + n.val < 16768)
    (h3 : ∀ k : Fin 5632, X3 (ix2 (⟨n.val, by omega⟩ : Fin 1024) k) = W (1024 * j + n.val) k.val) :
    tailDot (uAll X) (top (wAll j X3 X4)) (ix2 r n) = projS U W S (R0 + r.val) (1024 * j + n.val) := by
  unfold tailDot projS
  refine (Ideal.matmul_transposedRhs_apply (φ₁ := .bf16) (φ₂ := .bf16) none (uAll X) (top (wAll j X3 X4)) _ r n).trans ?_
  show Ideal.ofBits .f32 0x00000000#32 + _ = _
  rw [Ideal.ofBits_zero_f32, zero_add]
  refine Finset.sum_congr rfl fun k _ => ?_
  have e : top (wAll j X3 X4) (ix2 n k) = wAll j X3 X4 (ix2 (⟨n.val, by omega⟩ : Fin 1024) k) := by
    unfold top window
    congr 1
    funext a
    apply Fin.ext
    match a with
    | ⟨0, _⟩ => show 0 + 1 * n.val = n.val; omega
    | ⟨1, _⟩ => show 0 + 1 * k.val = k.val; omega
  rw [e, uAll_apply hU hX, wAll_apply h4 ⟨n.val, by omega⟩ hn k (h3 k)]

end Cert.InProj
end
-- ==== Proof.Idx.lean ====
/- The arguments as functions of row and column numbers, and the places of array elements in row-major order. -/
module

public import proofs.«01_k».proof.Proof.Spec
public import Idealize.ShloMosaic.Lib.ValueIdxCore
public import Idealize.ShloMosaic.Lib.Pipeline.Value

@[expose] public section

noncomputable section

namespace Cert.InProj

open Idealize.ShloMosaic Idealize.ShloMosaic.ValueIdx

/-- The activations by row number (batch and position together) and column. -/
def actN (u : (⟨3, ![8, 2048, 5632]⟩ : Shape).Idx → EReal) (R c : Nat) : EReal :=
  u (ix3 ⟨R / 2048 % 8, Nat.mod_lt _ (by decide)⟩ ⟨R % 2048, Nat.mod_lt _ (by decide)⟩ ⟨c % 5632, Nat.mod_lt _ (by decide)⟩)
/-- The weights by output column and input column. -/
def wgtN (w : (⟨2, ![16768, 5632]⟩ : Shape).Idx → EReal) (n c : Nat) : EReal :=
  w (ix2 ⟨n % 16768, Nat.mod_lt _ (by decide)⟩ ⟨c % 5632, Nat.mod_lt _ (by decide)⟩)
/-- The weights' scales by tile. -/
def sclN (s : (⟨2, ![131, 44]⟩ : Shape).Idx → EReal) (p g : Nat) : EReal :=
  s (ix2 ⟨p % 131, Nat.mod_lt _ (by decide)⟩ ⟨g % 44, Nat.mod_lt _ (by decide)⟩)

theorem actN_eq (u : (⟨3, ![8, 2048, 5632]⟩ : Shape).Idx → EReal) (b : Fin 8) (s : Fin 2048) (c : Fin 5632) {R k : Nat} (hR : R = 2048 * b.val + s.val)
    (hk : k = c.val) : actN u R k = u (ix3 b s c) := by
  subst hR hk
  unfold actN
  congr 1
  congr 1
  · apply Fin.ext; show (2048 * b.val + s.val) / 2048 % 8 = b.val; omega
  · apply Fin.ext; show (2048 * b.val + s.val) % 2048 = s.val; omega
  · apply Fin.ext; show c.val % 5632 = c.val; omega

theorem wgtN_eq (w : (⟨2, ![16768, 5632]⟩ : Shape).Idx → EReal) (n : Fin 16768) (c : Fin 5632) : wgtN w n.val c.val = w (ix2 n c) := by
  unfold wgtN
  congr 1
  congr 1
  · apply Fin.ext; show n.val % 16768 = n.val; omega
  · apply Fin.ext; show c.val % 5632 = c.val; omega

theorem sclN_eq (s : (⟨2, ![131, 44]⟩ : Shape).Idx → EReal) (p : Fin 131) (g : Fin 44) : sclN s p.val g.val = s (ix2 p g) := by
  unfold sclN
  congr 1
  congr 1
  · apply Fin.ext; show p.val % 131 = p.val; omega
  · apply Fin.ext; show g.val % 44 = g.val; omega

theorem rm2 {n0 n1 : Nat} (a : Fin n0) (b : Fin n1) : ((⟨2, ![n0, n1]⟩ : Shape).rowMajor (ix2 a b)).val = a.val * n1 + b.val :=
  Shape.rowMajor_val_two _

theorem rm3 {n0 n1 n2 : Nat} (a : Fin n0) (b : Fin n1) (c : Fin n2) :
    ((⟨3, ![n0, n1, n2]⟩ : Shape).rowMajor (ix3 a b c)).val = (a.val * n1 + b.val) * n2 + c.val :=
  Shape.rowMajor_val_three _

theorem rm4 {n0 n1 n2 n3 : Nat} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _

end Cert.InProj
end
-- ==== Proof.KArr.lean ====
/- What the kernel's run leaves in the arrays its grid writes, element by element. -/
module

public import proofs.«01_k».proof.Proof.Data
public import proofs.«01_k».proof.Proof.KVec
public import proofs.«01_k».proof.Proof.Idx
public import Idealize.ShloMosaic.Lib.Pipeline.ValueKit.Geometry

@[expose] public section

noncomputable section

namespace Cert.InProj

open Idealize.ShloMosaic Idealize.ShloMosaic.TcCoe Cert.KernelIdeal Cert.KernelIdeal.Gen
open Idealize.ShloMosaic.VecWindow Idealize.ShloMosaic.ValueIdx
open Idealize.ShloMosaic.Pipeline (Dat Window)
open Idealize.SL Idealize.SL.RA

variable (m : (ℓ : Loc nD τ sig) → Buf (Elt Ideal) ℓ)

/-! ## The arguments, by row and column -/

/-- The activations; -/
abbrev kU (c : Dev nD) : Nat → Nat → EReal := actN (m ((c.tc : Thread nD τ).loc main_arg0))
/-- the weights; -/
abbrev kW (c : Dev nD) : Nat → Nat → EReal := wgtN (m ((c.tc : Thread nD τ).loc main_arg1))
/-- the weights' scales. -/
abbrev kS (c : Dev nD) : Nat → Nat → EReal := sclN (m ((c.tc : Thread nD τ).loc main_arg2))

/-! ## The blocks the grid reads -/

theorem idx0 : ∀ t : Fin cfg0.N, win0_0.index t (0 : Fin 2) = t.val / 17 ∧ win0_0.index t (1 : Fin 2) = 0 :=
  (by decide +kernel : ∀ t : Fin grid0.N, _)
theorem idx1 : ∀ t : Fin cfg0.N, win0_1.index t (0 : Fin 2) = t.val % 17 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- The activations as the grid finds them: the argument's rows, all batches one below the other. -/
theorem V_main_v0 (c : Dev nD) : V m c main_v0 = (shapeCast S16384x5632 (m ((c.tc : Thread nD τ).loc main_arg0)) shapeCasts_S8x2048x5632_S16384x5632 : Vec Ideal S16384x5632 .bf16) := by
  rfl

theorem V_main_v0_apply (c : Dev nD) (R : Fin 16384) (k : Fin 5632) : (V m c main_v0 : Vec Ideal S16384x5632 .bf16) (ix2 R k) = kU m c R.val k.val := by
  rw [V_main_v0]
  refine (shapeCast_apply _ _ (ix2 R k) (ix3 (⟨R.val / 2048, by omega⟩ : Fin 8) (⟨R.val % 2048, Nat.mod_lt _ (by decide)⟩ : Fin 2048) k)
    (by rw [rm2, rm3]; show (R.val / 2048 * 2048 + R.val % 2048) * 5632 + k.val = R.val * 5632 + k.val; omega)).trans ?_
  exact (actN_eq _ _ _ k (by show R.val = 2048 * (R.val / 2048) + R.val % 2048; omega) rfl).symm

/-- A row block's rows are the activations'. -/
theorem ub_rows (c : Dev nD) (t : Fin cfg0.N) : Rows (kU m c) (ub m c t) (512 * (t.val / 17)) := by
  intro r k
  have := n_points t
  obtain ⟨e0, e1⟩ := idx0 t
  have e : ((cfg0.win 0).blk t).view.emb (ix2 r k) = ix2 (⟨512 * (t.val / 17) + r.val, by omega⟩ : Fin 16384) k := by
    funext a; apply Fin.ext
    match a with
    | ⟨0, _⟩ => show win0_0.index t (0 : Fin 2) * 512 + 1 * r.val = 512 * (t.val / 17) + r.val; omega
    | ⟨1, _⟩ => show win0_0.index t (1 : Fin 2) * 5632 + 1 * k.val = k.val; omega
  show V m c main_v0 (((cfg0.win 0).blk t).view.emb (ix2 r k)) = _
  rw [e]
  exact V_main_v0_apply m c _ k

/-- The scales are the argument's. -/
theorem sb_apply (c : Dev nD) (t : Fin cfg0.N) (a : Fin 131) (b : Fin 44) : sb m c t (ix2 a b) = kS m c a.val b.val := by
  obtain ⟨e0, e1⟩ := idx2 t
  have e : ((cfg0.win 2).blk t).view.emb (ix2 a b) = ix2 a b := by
    funext x; apply Fin.ext
    match x with
    | ⟨0, _⟩ => show win0_2.index t (0 : Fin 2) * 131 + 1 * a.val = a.val; omega
    | ⟨1, _⟩ => show win0_2.index t (1 : Fin 2) * 44 + 1 * b.val = b.val; omega
  show V m c main_arg2 (((cfg0.win 2).blk t).view.emb (ix2 a b)) = _
  rw [e, V_main_arg2]
  exact (sclN_eq _ a b).symm

/-- A weight block's rows that lie in the array are the argument's. -/
theorem wb_apply (c : Dev nD) (t : Fin cfg0.N) (n : Fin 1024) (k : Fin 5632) (hn : 1024 * (t.val % 17) + n.val < 16768) :
    wb m c t (ix2 n k) = kW m c (1024 * (t.val % 17) + n.val) k.val := by
  obtain ⟨e0, e1⟩ := idx1 t
  have hm : win0_1.moved (grid0.coords t) (ix2 n k) = true := moved1 t (ix2 n k) hn
  unfold wb Window.fill
  rw [dif_pos hm]
  have e : ∀ y : (win0_1.xblock (grid0.coords t)).Idx, (y 0).val = n.val → (y 1).val = k.val →
      ((cfg0.win 1).blk t).view.emb y = ix2 (⟨1024 * (t.val % 17) + n.val, hn⟩ : Fin 16768) k := by
    intro y h0 h1
    funext x; apply Fin.ext
    match x with
    | ⟨0, _⟩ => show win0_1.index t (0 : Fin 2) * 1024 + 1 * (y 0).val = 1024 * (t.val % 17) + n.val; omega
    | ⟨1, _⟩ => show win0_1.index t (1 : Fin 2) * 5632 + 1 * (y 1).val = k.val; omega
  refine Eq.trans (b := V m c main_arg1 (((cfg0.win 1).blk t).view.emb _)) rfl ?_
  rw [e _ rfl rfl, V_main_arg1]
  exact (wgtN_eq _ _ k).symm

/-! ## What a point makes -/

variable (hU : ∀ (c : Dev nD) R k, max (kU m c R k) (-(kU m c R k)) ≤ Ideal.ofBits .f32 0x7F7F0000#32)
include hU

theorem zVal_apply (c : Dev nD) (t : Fin cfg0.N) (ht : t.val % 17 < 16) (r : Fin 512) (n : Fin 1024) :
    zVal m c t (ix2 r n) = projS (kU m c) (kW m c) (kS m c) (512 * (t.val / 17) + r.val) (1024 * (t.val % 17) + n.val) :=
  zOut_apply (hU c) (ub_rows m c t) (sb_apply m c t) r n (by omega) fun k => wb_apply m c t n k (by omega)

theorem tVal_apply (c : Dev nD) (t : Fin cfg0.N) (ht : t.val % 17 = 16) (r : Fin 512) (n : Fin 384) :
    tVal m c t (ix2 r n) = projS (kU m c) (kW m c) (kS m c) (512 * (t.val / 17) + r.val) (16384 + n.val) := by
  refine (tailDot_apply (hU c) (ub_rows m c t) (sb_apply m c t) r n (by omega) fun k => wb_apply m c t _ k (by show _ + n.val < _; omega)).trans ?_
  rw [ht]

/-! ## The arrays -/

omit hU in
theorem idx3 : ∀ t : Fin cfg0.N, win0_3.index t (0 : Fin 2) = t.val / 17 ∧ win0_3.index t (1 : Fin 2) = min (t.val % 17) 7 :=
  (by decide +kernel : ∀ t : Fin grid0.N, _)

/-- The first wide result. -/
def arr3 (c : Dev nD) : Vec Ideal S16384x8192 .bf16 := fun i => projS (kU m c) (kW m c) (kS m c) (i 0).val (0 + (i 1).val)

/-- What a point writes back of it. -/
theorem wrote3 (c : Dev nD) (t : Fin cfg0.N) (hf : (cfg0.win 3).flush t = true) (y : S512x1024.Idx) :
    zVal m c (zpt t) (ix2 (y 0) (y 1)) = arr3 m c (((cfg0.win 3).blk t).view.emb y) := by
  have := n_points t
  obtain ⟨e0, e1⟩ := idx3 t
  have hp : (zpt t).val = 17 * (t.val / 17) + min (t.val % 17) 7 := rfl
  refine (zVal_apply m hU c (zpt t) (by omega) (y 0) (y 1)).trans (congrArg₂ (projS (kU m c) (kW m c) (kS m c)) ?_ ?_)
  · show 512 * ((zpt t).val / 17) + (y 0).val = win0_3.index t (0 : Fin 2) * 512 + 1 * (y 0).val; omega
  · show 1024 * ((zpt t).val % 17) + (y 1).val = 0 + (win0_3.index t (1 : Fin 2) * 1024 + 1 * (y 1).val); omega

theorem final3 (c : Dev nD) : (dats m 0 c).arrAt 3 cfg0.N = arr3 m c :=
  (dats m 0 c).arrAt_eq_of_covers 3 (arr3 m c) (by decide +kernel) fun t hf y => by
    refine Eq.trans (b := (dats m 0 c).after 3 t (ix2 (y 0) (y 1))) ?_ (wrote3 m hU c t hf y)
    exact congrArg ((dats m 0 c).after 3 t) (eq_ix2 y)

omit hU in
theorem idx4 : ∀ t : Fin cfg0.N, win0_4.index t (0 : Fin 2) = t.val / 17 ∧ win0_4.index t (1 : Fin 2) = max 8 (min (t.val % 17) 15) - 8 :=
  (by decide +kernel : ∀ t : Fin grid0.N, _)

/-- The second wide result. -/
def arr4 (c : Dev nD) : Vec Ideal S16384x8192 .bf16 := fun i => projS (kU m c) (kW m c) (kS m c) (i 0).val (8192 + (i 1).val)

/-- What a point writes back of it. -/
theorem wrote4 (c : Dev nD) (t : Fin cfg0.N) (hf : (cfg0.win 4).flush t = true) (y : S512x1024.Idx) :
    zVal m c (xpt t) (ix2 (y 0) (y 1)) = arr4 m c (((cfg0.win 4).blk t).view.emb y) := by
  have := n_points t
  obtain ⟨e0, e1⟩ := idx4 t
  have hp : (xpt t).val = 17 * (t.val / 17) + max 8 (min (t.val % 17) 15) := rfl
  refine (zVal_apply m hU c (xpt t) (by omega) (y 0) (y 1)).trans (congrArg₂ (projS (kU m c) (kW m c) (kS m c)) ?_ ?_)
  · show 512 * ((xpt t).val / 17) + (y 0).val = win0_4.index t (0 : Fin 2) * 512 + 1 * (y 0).val; omega
  · show 1024 * ((xpt t).val % 17) + (y 1).val = 8192 + (win0_4.index t (1 : Fin 2) * 1024 + 1 * (y 1).val); omega

theorem final4 (c : Dev nD) : (dats m 0 c).arrAt 4 cfg0.N = arr4 m c :=
  (dats m 0 c).arrAt_eq_of_covers 4 (arr4 m c) (by decide +kernel) fun t hf y => by
    refine Eq.trans (b := (dats m 0 c).after 4 t (ix2 (y 0) (y 1))) ?_ (wrote4 m hU c t hf y)
    exact congrArg ((dats m 0 c).after 4 t) (eq_ix2 y)

omit hU in
theorem idx5 : ∀ t : Fin cfg0.N, win0_5.index t (0 : Fin 2) = t.val / 17 ∧ win0_5.index t (1 : Fin 2) = 0 :=
  (by decide +kernel : ∀ t : Fin grid0.N, _)

/-- The first narrow result. -/
def arr5 (c : Dev nD) : Vec Ideal S16384x128 .bf16 := fun i => projS (kU m c) (kW m c) (kS m c) (i 0).val (16384 + (i 1).val)

/-- What a point writes back of it. -/
theorem wrote5 (c : Dev nD) (t : Fin cfg0.N) (hf : (cfg0.win 5).flush t = true) (y : S512x128.Idx) :
    partB (tVal m c (tpt t)) (ix2 (y 0) (y 1)) = arr5 m c (((cfg0.win 5).blk t).view.emb y) := by
  have := n_points t
  obtain ⟨e0, e1⟩ := idx5 t
  have hp : (tpt t).val = 17 * (t.val / 17) + 16 := rfl
  have hy : (y 1).val < 128 := (y 1).isLt
  refine (extractStridedSlice_apply (s := S512x384) (t := S512x128) ![0, 0] (tVal m c (tpt t)) _ (ix2 (y 0) (y 1))
    (ix2 (y 0) (⟨0 + (y 1).val, by omega⟩ : Fin 384)) fun a => ?_).trans
    ((tVal_apply m hU c (tpt t) (by omega) (y 0) _).trans (congrArg₂ (projS (kU m c) (kW m c) (kS m c)) ?_ ?_))
  · match a with
    | ⟨0, _⟩ => exact (Nat.zero_add _).symm
    | ⟨1, _⟩ => rfl
  · show 512 * ((tpt t).val / 17) + (y 0).val = win0_5.index t (0 : Fin 2) * 512 + 1 * (y 0).val; omega
  · show 16384 + (0 + (y 1).val) = 16384 + (win0_5.index t (1 : Fin 2) * 128 + 1 * (y 1).val); omega

theorem final5 (c : Dev nD) : (dats m 0 c).arrAt 5 cfg0.N = arr5 m c :=
  (dats m 0 c).arrAt_eq_of_covers 5 (arr5 m c) (by decide +kernel) fun t hf y => by
    refine Eq.trans (b := (dats m 0 c).after 5 t (ix2 (y 0) (y 1))) ?_ (wrote5 m hU c t hf y)
    exact congrArg ((dats m 0 c).after 5 t) (eq_ix2 y)

omit hU in
theorem idx6 : ∀ t : Fin cfg0.N, win0_6.index t (0 : Fin 2) = t.val / 17 ∧ win0_6.index t (1 : Fin 2) = 0 :=
  (by decide +kernel : ∀ t : Fin grid0.N, _)

/-- The second narrow result. -/
def arr6 (c : Dev nD) : Vec Ideal S16384x128 .bf16 := fun i => projS (kU m c) (kW m c) (kS m c) (i 0).val (16512 + (i 1).val)

/-- What a point writes back of it. -/
theorem wrote6 (c : Dev nD) (t : Fin cfg0.N) (hf : (cfg0.win 6).flush t = true) (y : S512x128.Idx) :
    partC (tVal m c (tpt t)) (ix2 (y 0) (y 1)) = arr6 m c (((cfg0.win 6).blk t).view.emb y) := by
  have := n_points t
  obtain ⟨e0, e1⟩ := idx6 t
  have hp : (tpt t).val = 17 * (t.val / 17) + 16 := rfl
  have hy : (y 1).val < 128 := (y 1).isLt
  refine (extractStridedSlice_apply (s := S512x384) (t := S512x128) ![0, 128] (tVal m c (tpt t)) _ (ix2 (y 0) (y 1))
    (ix2 (y 0) (⟨128 + (y 1).val, by omega⟩ : Fin 384)) fun a => ?_).trans
    ((tVal_apply m hU c (tpt t) (by omega) (y 0) _).trans (congrArg₂ (projS (kU m c) (kW m c) (kS m c)) ?_ ?_))
  · match a with
    | ⟨0, _⟩ => exact (Nat.zero_add _).symm
    | ⟨1, _⟩ => rfl
  · show 512 * ((tpt t).val / 17) + (y 0).val = win0_6.index t (0 : Fin 2) * 512 + 1 * (y 0).val; omega
  · show 16384 + (128 + (y 1).val) = 16512 + (win0_6.index t (1 : Fin 2) * 128 + 1 * (y 1).val); omega

theorem final6 (c : Dev nD) : (dats m 0 c).arrAt 6 cfg0.N = arr6 m c :=
  (dats m 0 c).arrAt_eq_of_covers 6 (arr6 m c) (by decide +kernel) fun t hf y => by
    refine Eq.trans (b := (dats m 0 c).after 6 t (ix2 (y 0) (y 1))) ?_ (wrote6 m hU c t hf y)
    exact congrArg ((dats m 0 c).after 6 t) (eq_ix2 y)

omit hU in
theorem idx7 : ∀ t : Fin cfg0.N, win0_7.index t (0 : Fin 2) = t.val / 17 ∧ win0_7.index t (1 : Fin 2) = 0 :=
  (by decide +kernel : ∀ t : Fin grid0.N, _)

/-- The third narrow result. -/
def arr7 (c : Dev nD) : Vec Ideal S16384x128 .bf16 := fun i => projS (kU m c) (kW m c) (kS m c) (i 0).val (16640 + (i 1).val)

/-- What a point writes back of it. -/
theorem wrote7 (c : Dev nD) (t : Fin cfg0.N) (hf : (cfg0.win 7).flush t = true) (y : S512x128.Idx) :
    partD (tVal m c (tpt t)) (ix2 (y 0) (y 1)) = arr7 m c (((cfg0.win 7).blk t).view.emb y) := by
  have := n_points t
  obtain ⟨e0, e1⟩ := idx7 t
  have hp : (tpt t).val = 17 * (t.val / 17) + 16 := rfl
  have hy : (y 1).val < 128 := (y 1).isLt
  refine (extractStridedSlice_apply (s := S512x384) (t := S512x128) ![0, 256] (tVal m c (tpt t)) _ (ix2 (y 0) (y 1))
    (ix2 (y 0) (⟨256 + (y 1).val, by omega⟩ : Fin 384)) fun a => ?_).trans
    ((tVal_apply m hU c (tpt t) (by omega) (y 0) _).trans (congrArg₂ (projS (kU m c) (kW m c) (kS m c)) ?_ ?_))
  · match a with
    | ⟨0, _⟩ => exact (Nat.zero_add _).symm
    | ⟨1, _⟩ => rfl
  · show 512 * ((tpt t).val / 17) + (y 0).val = win0_7.index t (0 : Fin 2) * 512 + 1 * (y 0).val; omega
  · show 16384 + (256 + (y 1).val) = 16640 + (win0_7.index t (1 : Fin 2) * 128 + 1 * (y 1).val); omega

theorem final7 (c : Dev nD) : (dats m 0 c).arrAt 7 cfg0.N = arr7 m c :=
  (dats m 0 c).arrAt_eq_of_covers 7 (arr7 m c) (by decide +kernel) fun t hf y => by
    refine Eq.trans (b := (dats m 0 c).after 7 t (ix2 (y 0) (y 1))) ?_ (wrote7 m hU c t hf y)
    exact congrArg ((dats m 0 c).after 7 t) (eq_ix2 y)

omit hU in
theorem idx8 : ∀ t : Fin cfg0.N, win0_8.index t (0 : Fin 2) = t.val / 17 ∧ win0_8.index t (1 : Fin 2) = 0 :=
  (by decide +kernel : ∀ t : Fin grid0.N, _)

/-- The codes. -/
def arr8 (c : Dev nD) : Vec Ideal S16384x5632 .fp8e4m3 := fun i => codeS (kU m c) (i 0).val (i 1).val

/-- What a point writes back of it. -/
theorem wrote8 (c : Dev nD) (t : Fin cfg0.N) (hf : (cfg0.win 8).flush t = true) (y : S512x5632.Idx) :
    cAll (ub m c t) (ix2 (y 0) (y 1)) = arr8 m c (((cfg0.win 8).blk t).view.emb y) := by
  have := n_points t
  obtain ⟨e0, e1⟩ := idx8 t
  refine (cAll_apply (hU c) (ub_rows m c t) (y 0) (y 1)).trans (congrArg₂ (codeS (kU m c)) ?_ ?_)
  · show 512 * (t.val / 17) + (y 0).val = win0_8.index t (0 : Fin 2) * 512 + 1 * (y 0).val; omega
  · show (y 1).val = win0_8.index t (1 : Fin 2) * 5632 + 1 * (y 1).val; omega

theorem final8 (c : Dev nD) : (dats m 0 c).arrAt 8 cfg0.N = arr8 m c :=
  (dats m 0 c).arrAt_eq_of_covers 8 (arr8 m c) (by decide +kernel) fun t hf y => by
    refine Eq.trans (b := (dats m 0 c).after 8 t (ix2 (y 0) (y 1))) ?_ (wrote8 m hU c t hf y)
    exact congrArg ((dats m 0 c).after 8 t) (eq_ix2 y)

omit hU in
theorem idx9 : ∀ t : Fin cfg0.N, win0_9.index t (0 : Fin 2) = t.val / 17 ∧ win0_9.index t (1 : Fin 2) = 0 :=
  (by decide +kernel : ∀ t : Fin grid0.N, _)

/-- The scales. -/
def arr9 (c : Dev nD) : Vec Ideal S16384x44 .f32 := fun i => scaleS (kU m c) (i 0).val (i 1).val

/-- What a point writes back of it. -/
theorem wrote9 (c : Dev nD) (t : Fin cfg0.N) (hf : (cfg0.win 9).flush t = true) (y : S512x44.Idx) :
    sAll (ub m c t) (ix2 (y 0) (y 1)) = arr9 m c (((cfg0.win 9).blk t).view.emb y) := by
  have := n_points t
  obtain ⟨e0, e1⟩ := idx9 t
  refine (sAll_apply (hU c) (ub_rows m c t) (y 0) (y 1)).trans (congrArg₂ (scaleS (kU m c)) ?_ ?_)
  · show 512 * (t.val / 17) + (y 0).val = win0_9.index t (0 : Fin 2) * 512 + 1 * (y 0).val; omega
  · show (y 1).val = win0_9.index t (1 : Fin 2) * 44 + 1 * (y 1).val; omega

theorem final9 (c : Dev nD) : (dats m 0 c).arrAt 9 cfg0.N = arr9 m c :=
  (dats m 0 c).arrAt_eq_of_covers 9 (arr9 m c) (by decide +kernel) fun t hf y => by
    refine Eq.trans (b := (dats m 0 c).after 9 t (ix2 (y 0) (y 1))) ?_ (wrote9 m hU c t hf y)
    exact congrArg ((dats m 0 c).after 9 t) (eq_ix2 y)

end Cert.InProj
end
-- ==== Proof.KRun.lean ====
/- The kernel's run, to its seven results. -/
module

public import proofs.«01_k».proof.Proof.KArr
public import proofs.«01_k».proof.Proof.KFrame
public import Idealize.ShloMosaic.Lib.StableHlo.Run

@[expose] public section

noncomputable section

namespace Cert.InProj

open Idealize.ShloMosaic Idealize.ShloMosaic.TcCoe Cert.KernelIdeal Cert.KernelIdeal.Gen
open Idealize.ShloMosaic.ValueIdx
open Idealize.ShloMosaic.Pipeline (Dat)
open Idealize.SL Idealize.SL.RA Idealize.SL.Sem

/-! ## The reshapes after the grid -/

section
variable (W : Valuation τ sig (Elt Ideal))

theorem after_v2 : StableHlo.after (hostOps1 (F := Ideal)) W (Proc.devRef .tc main_v2)
    = (shapeCast S8x2048x8192 (W (Proc.devRef .tc main_v1_0) : Vec Ideal S16384x8192 .bf16) shapeCasts_S16384x8192_S8x2048x8192 : Vec Ideal S8x2048x8192 .bf16) := by
  simp (disch := decide) only [hostOps1, StableHlo.after_cons, StableHlo.after_nil, StableHlo.reshape_result', StableHlo.reshape_result_ne']
  rfl

theorem after_v3 : StableHlo.after (hostOps1 (F := Ideal)) W (Proc.devRef .tc main_v3)
    = (shapeCast S8x2048x8192 (W (Proc.devRef .tc main_v1_1) : Vec Ideal S16384x8192 .bf16) shapeCasts_S16384x8192_S8x2048x8192 : Vec Ideal S8x2048x8192 .bf16) := by
  simp (disch := decide) only [hostOps1, StableHlo.after_cons, StableHlo.after_nil, StableHlo.reshape_result', StableHlo.reshape_result_ne']
  rfl

theorem after_v4 : StableHlo.after (hostOps1 (F := Ideal)) W (Proc.devRef .tc main_v4)
    = (shapeCast S8x2048x128 (W (Proc.devRef .tc main_v1_2) : Vec Ideal S16384x128 .bf16) shapeCasts_S16384x128_S8x2048x128 : Vec Ideal S8x2048x128 .bf16) := by
  simp (disch := decide) only [hostOps1, StableHlo.after_cons, StableHlo.after_nil, StableHlo.reshape_result', StableHlo.reshape_result_ne']
  rfl

theorem after_v5 : StableHlo.after (hostOps1 (F := Ideal)) W (Proc.devRef .tc main_v5)
    = (shapeCast S8x2048x128 (W (Proc.devRef .tc main_v1_3) : Vec Ideal S16384x128 .bf16) shapeCasts_S16384x128_S8x2048x128 : Vec Ideal S8x2048x128 .bf16) := by
  simp (disch := decide) only [hostOps1, StableHlo.after_cons, StableHlo.after_nil, StableHlo.reshape_result', StableHlo.reshape_result_ne']
  rfl

theorem after_v6 : StableHlo.after (hostOps1 (F := Ideal)) W (Proc.devRef .tc main_v6)
    = (shapeCast S8x2048x128 (W (Proc.devRef .tc main_v1_4) : Vec Ideal S16384x128 .bf16) shapeCasts_S16384x128_S8x2048x128 : Vec Ideal S8x2048x128 .bf16) := by
  simp (disch := decide) only [hostOps1, StableHlo.after_cons, StableHlo.after_nil, StableHlo.reshape_result', StableHlo.reshape_result_ne']
  rfl

theorem after_v7 : StableHlo.after (hostOps1 (F := Ideal)) W (Proc.devRef .tc main_v7)
    = (shapeCast S8x2048x5632 (W (Proc.devRef .tc main_v1_5) : Vec Ideal S16384x5632 .fp8e4m3) shapeCasts_S16384x5632_S8x2048x5632 : Vec Ideal S8x2048x5632 .fp8e4m3) := by
  simp (disch := decide) only [hostOps1, StableHlo.after_cons, StableHlo.after_nil, StableHlo.reshape_result', StableHlo.reshape_result_ne']
  rfl

theorem after_v8 : StableHlo.after (hostOps1 (F := Ideal)) W (Proc.devRef .tc main_v8)
    = (shapeCast S8x2048x44 (W (Proc.devRef .tc main_v1_6) : Vec Ideal S16384x44 .f32) shapeCasts_S16384x44_S8x2048x44 : Vec Ideal S8x2048x44 .f32) := by
  simp (disch := decide) only [hostOps1, StableHlo.after_cons, StableHlo.after_nil, StableHlo.reshape_result', StableHlo.reshape_result_ne']
  rfl

end

variable (m : (ℓ : Loc nD τ sig) → Buf (Elt Ideal) ℓ) (ρ : Dev nD → PrngReg)

/-! ## The results -/

/-- The first wide result, by batch. -/
def res3 (c : Dev nD) : Vec Ideal S8x2048x8192 .bf16 := shapeCast S8x2048x8192 (arr3 m c) shapeCasts_S16384x8192_S8x2048x8192

theorem res3_apply (c : Dev nD) (b : Fin 8) (p : Fin 2048) (n : Fin 8192) :
    res3 m c (ix3 b p n) = arr3 m c (ix2 (⟨2048 * b.val + p.val, by omega⟩ : Fin 16384) n) := by
  unfold res3
  exact shapeCast_apply _ _ (ix3 b p n) (ix2 (⟨2048 * b.val + p.val, by omega⟩ : Fin 16384) n) (by rw [rm2, rm3]; show (2048 * b.val + p.val) * 8192 + n.val = (b.val * 2048 + p.val) * 8192 + n.val; omega)

/-- The second wide result, by batch. -/
def res4 (c : Dev nD) : Vec Ideal S8x2048x8192 .bf16 := shapeCast S8x2048x8192 (arr4 m c) shapeCasts_S16384x8192_S8x2048x8192

theorem res4_apply (c : Dev nD) (b : Fin 8) (p : Fin 2048) (n : Fin 8192) :
    res4 m c (ix3 b p n) = arr4 m c (ix2 (⟨2048 * b.val + p.val, by omega⟩ : Fin 16384) n) := by
  unfold res4
  exact shapeCast_apply _ _ (ix3 b p n) (ix2 (⟨2048 * b.val + p.val, by omega⟩ : Fin 16384) n) (by rw [rm2, rm3]; show (2048 * b.val + p.val) * 8192 + n.val = (b.val * 2048 + p.val) * 8192 + n.val; omega)

/-- The first narrow result, by batch. -/
def res5 (c : Dev nD) : Vec Ideal S8x2048x128 .bf16 := shapeCast S8x2048x128 (arr5 m c) shapeCasts_S16384x128_S8x2048x128

theorem res5_apply (c : Dev nD) (b : Fin 8) (p : Fin 2048) (n : Fin 128) :
    res5 m c (ix3 b p n) = arr5 m c (ix2 (⟨2048 * b.val + p.val, by omega⟩ : Fin 16384) n) := by
  unfold res5
  exact shapeCast_apply _ _ (ix3 b p n) (ix2 (⟨2048 * b.val + p.val, by omega⟩ : Fin 16384) n) (by rw [rm2, rm3]; show (2048 * b.val + p.val) * 128 + n.val = (b.val * 2048 + p.val) * 128 + n.val; omega)

/-- The second narrow result, by batch. -/
def res6 (c : Dev nD) : Vec Ideal S8x2048x128 .bf16 := shapeCast S8x2048x128 (arr6 m c) shapeCasts_S16384x128_S8x2048x128

theorem res6_apply (c : Dev nD) (b : Fin 8) (p : Fin 2048) (n : Fin 128) :
    res6 m c (ix3 b p n) = arr6 m c (ix2 (⟨2048 * b.val + p.val, by omega⟩ : Fin 16384) n) := by
  unfold res6
  exact shapeCast_apply _ _ (ix3 b p n) (ix2 (⟨2048 * b.val + p.val, by omega⟩ : Fin 16384) n) (by rw [rm2, rm3]; show (2048 * b.val + p.val) * 128 + n.val = (b.val * 2048 + p.val) * 128 + n.val; omega)

/-- The third narrow result, by batch. -/
def res7 (c : Dev nD) : Vec Ideal S8x2048x128 .bf16 := shapeCast S8x2048x128 (arr7 m c) shapeCasts_S16384x128_S8x2048x128

theorem res7_apply (c : Dev nD) (b : Fin 8) (p : Fin 2048) (n : Fin 128) :
    res7 m c (ix3 b p n) = arr7 m c (ix2 (⟨2048 * b.val + p.val, by omega⟩ : Fin 16384) n) := by
  unfold res7
  exact shapeCast_apply _ _ (ix3 b p n) (ix2 (⟨2048 * b.val + p.val, by omega⟩ : Fin 16384) n) (by rw [rm2, rm3]; show (2048 * b.val + p.val) * 128 + n.val = (b.val * 2048 + p.val) * 128 + n.val; omega)

/-- The codes, by batch. -/
def res8 (c : Dev nD) : Vec Ideal S8x2048x5632 .fp8e4m3 := shapeCast S8x2048x5632 (arr8 m c) shapeCasts_S16384x5632_S8x2048x5632

theorem res8_apply (c : Dev nD) (b : Fin 8) (p : Fin 2048) (n : Fin 5632) :
    res8 m c (ix3 b p n) = arr8 m c (ix2 (⟨2048 * b.val + p.val, by omega⟩ : Fin 16384) n) := by
  unfold res8
  exact shapeCast_apply _ _ (ix3 b p n) (ix2 (⟨2048 * b.val + p.val, by omega⟩ : Fin 16384) n) (by rw [rm2, rm3]; show (2048 * b.val + p.val) * 5632 + n.val = (b.val * 2048 + p.val) * 5632 + n.val; omega)

/-- The scales, by batch. -/
def res9 (c : Dev nD) : Vec Ideal S8x2048x44 .f32 := shapeCast S8x2048x44 (arr9 m c) shapeCasts_S16384x44_S8x2048x44

theorem res9_apply (c : Dev nD) (b : Fin 8) (p : Fin 2048) (n : Fin 44) :
    res9 m c (ix3 b p n) = arr9 m c (ix2 (⟨2048 * b.val + p.val, by omega⟩ : Fin 16384) n) := by
  unfold res9
  exact shapeCast_apply _ _ (ix3 b p n) (ix2 (⟨2048 * b.val + p.val, by omega⟩ : Fin 16384) n) (by rw [rm2, rm3]; show (2048 * b.val + p.val) * 44 + n.val = (b.val * 2048 + p.val) * 44 + n.val; omega)

variable (hU : ∀ (c : Dev nD) R k, max (kU m c R k) (-(kU m c R k)) ≤ Ideal.ofBits .f32 0x7F7F0000#32)
include hU

theorem tail3 (c : Dev nD) : Pipeline.afterTail₀ cfgs (dats m) 0 (V0 m) [hostOps1] c main_v2 = res3 m c := by
  refine (after_v2 _).trans ?_
  unfold res3
  refine congrArg (fun x : Vec Ideal S16384x8192 .bf16 => (shapeCast S8x2048x8192 x shapeCasts_S16384x8192_S8x2048x8192 : Vec Ideal S8x2048x8192 .bf16)) ?_
  exact (Pipeline.withArrays_arr spec0 (by decide) c (V0 m c) (fun w => (dats m 0 c).arrAt w cfg0.N) 3).trans (final3 m hU c)

theorem tail4 (c : Dev nD) : Pipeline.afterTail₀ cfgs (dats m) 0 (V0 m) [hostOps1] c main_v3 = res4 m c := by
  refine (after_v3 _).trans ?_
  unfold res4
  refine congrArg (fun x : Vec Ideal S16384x8192 .bf16 => (shapeCast S8x2048x8192 x shapeCasts_S16384x8192_S8x2048x8192 : Vec Ideal S8x2048x8192 .bf16)) ?_
  exact (Pipeline.withArrays_arr spec0 (by decide) c (V0 m c) (fun w => (dats m 0 c).arrAt w cfg0.N) 4).trans (final4 m hU c)

theorem tail5 (c : Dev nD) : Pipeline.afterTail₀ cfgs (dats m) 0 (V0 m) [hostOps1] c main_v4 = res5 m c := by
  refine (after_v4 _).trans ?_
  unfold res5
  refine congrArg (fun x : Vec Ideal S16384x128 .bf16 => (shapeCast S8x2048x128 x shapeCasts_S16384x128_S8x2048x128 : Vec Ideal S8x2048x128 .bf16)) ?_
  exact (Pipeline.withArrays_arr spec0 (by decide) c (V0 m c) (fun w => (dats m 0 c).arrAt w cfg0.N) 5).trans (final5 m hU c)

theorem tail6 (c : Dev nD) : Pipeline.afterTail₀ cfgs (dats m) 0 (V0 m) [hostOps1] c main_v5 = res6 m c := by
  refine (after_v5 _).trans ?_
  unfold res6
  refine congrArg (fun x : Vec Ideal S16384x128 .bf16 => (shapeCast S8x2048x128 x shapeCasts_S16384x128_S8x2048x128 : Vec Ideal S8x2048x128 .bf16)) ?_
  exact (Pipeline.withArrays_arr spec0 (by decide) c (V0 m c) (fun w => (dats m 0 c).arrAt w cfg0.N) 6).trans (final6 m hU c)

theorem tail7 (c : Dev nD) : Pipeline.afterTail₀ cfgs (dats m) 0 (V0 m) [hostOps1] c main_v6 = res7 m c := by
  refine (after_v6 _).trans ?_
  unfold res7
  refine congrArg (fun x : Vec Ideal S16384x128 .bf16 => (shapeCast S8x2048x128 x shapeCasts_S16384x128_S8x2048x128 : Vec Ideal S8x2048x128 .bf16)) ?_
  exact (Pipeline.withArrays_arr spec0 (by decide) c (V0 m c) (fun w => (dats m 0 c).arrAt w cfg0.N) 7).trans (final7 m hU c)

theorem tail8 (c : Dev nD) : Pipeline.afterTail₀ cfgs (dats m) 0 (V0 m) [hostOps1] c main_v7 = res8 m c := by
  refine (after_v7 _).trans ?_
  unfold res8
  refine congrArg (fun x : Vec Ideal S16384x5632 .fp8e4m3 => (shapeCast S8x2048x5632 x shapeCasts_S16384x5632_S8x2048x5632 : Vec Ideal S8x2048x5632 .fp8e4m3)) ?_
  exact (Pipeline.withArrays_arr spec0 (by decide) c (V0 m c) (fun w => (dats m 0 c).arrAt w cfg0.N) 8).trans (final8 m hU c)

theorem tail9 (c : Dev nD) : Pipeline.afterTail₀ cfgs (dats m) 0 (V0 m) [hostOps1] c main_v8 = res9 m c := by
  refine (after_v8 _).trans ?_
  unfold res9
  refine congrArg (fun x : Vec Ideal S16384x44 .f32 => (shapeCast S8x2048x44 x shapeCasts_S16384x44_S8x2048x44 : Vec Ideal S8x2048x44 .f32)) ?_
  exact (Pipeline.withArrays_arr spec0 (by decide) c (V0 m c) (fun w => (dats m 0 c).arrAt w cfg0.N) 9).trans (final9 m hU c)

/-- The kernel's run, read: the seven results, the arguments unchanged. -/
theorem run_value : θ_run defs (onTc (τ := τ) (main (F := Ideal))) ⟨m, fun _ => 0, ρ⟩ (fun r => ∀ c : Dev nD,
      r.2.mem ((c.tc : Thread nD τ).loc main_v2) = res3 m c
      ∧ r.2.mem ((c.tc : Thread nD τ).loc main_v3) = res4 m c
      ∧ r.2.mem ((c.tc : Thread nD τ).loc main_v4) = res5 m c
      ∧ r.2.mem ((c.tc : Thread nD τ).loc main_v5) = res6 m c
      ∧ r.2.mem ((c.tc : Thread nD τ).loc main_v6) = res7 m c
      ∧ r.2.mem ((c.tc : Thread nD τ).loc main_v7) = res8 m c
      ∧ r.2.mem ((c.tc : Thread nD τ).loc main_v8) = res9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (run_main m ρ)
  have h := hr.1
  exact ⟨((h c).2 main_v2 (Pipeline.mem_restRefs_of main_v2 (by decide) (by decide))).trans (tail3 m hU c),
    ((h c).2 main_v3 (Pipeline.mem_restRefs_of main_v3 (by decide) (by decide))).trans (tail4 m hU c),
    ((h c).2 main_v4 (Pipeline.mem_restRefs_of main_v4 (by decide) (by decide))).trans (tail5 m hU c),
    ((h c).2 main_v5 (Pipeline.mem_restRefs_of main_v5 (by decide) (by decide))).trans (tail6 m hU c),
    ((h c).2 main_v6 (Pipeline.mem_restRefs_of main_v6 (by decide) (by decide))).trans (tail7 m hU c),
    ((h c).2 main_v7 (Pipeline.mem_restRefs_of main_v7 (by decide) (by decide))).trans (tail8 m hU c),
    ((h c).2 main_v8 (Pipeline.mem_restRefs_of main_v8 (by decide) (by decide))).trans (tail9 m hU c),
    ((h c).2 main_arg0 (Pipeline.mem_restRefs_of main_arg0 (by decide) (by decide))).trans (W_main_arg0 m (dats m) c),
    ((h c).1 1).trans (((dats m 0 c).arrAt_in 1 rfl _).trans (V_main_arg1 m c)),
    ((h c).1 2).trans (((dats m 0 c).arrAt_in 2 rfl _).trans (V_main_arg2 m c))⟩

end Cert.InProj
end
-- ==== Proof.RVal.lean ====
/- What the reference computes, element by element. -/
module

public import proofs.«01_k».proof.Proof.Idx
public import proofs.«01_k».proof.Proof.Gen.ReferenceIdeal.Skeleton
public import Idealize.ShloMosaic.Lib.MatmulPlain

@[expose] public section

noncomputable section

namespace Cert.InProj.Ref

open Idealize.ShloMosaic Cert.ReferenceIdeal Cert.ReferenceIdeal.Gen
open Idealize.ShloMosaic.ValueIdx
open scoped BigOperators

/-! ## Layout -/

theorem z1 : ((0 : Fin 1) : Nat) = 0 := rfl

/-- One value per group, spread over the group's columns. -/
theorem spread_apply {α : Type} (x : S8x2048x44.Idx → α) (h1 : S8x2048x44.ShapeCasts S8x2048x44x1) (h2 : S8x2048x44x1.Broadcasts S8x2048x44x128)
    (b : Fin 8) (p : Fin 2048) (g : Fin 44) (l : Fin 128) :
    broadcastTo S8x2048x44x128 (shapeCast S8x2048x44x1 x h1) h2 (ix4 b p g l) = x (ix3 b p g) := by
  refine (broadcastTo_apply _ h2 (ix4 b p g l) (ix4 b p g (0 : Fin 1)) fun a => ?_).trans ?_
  · match a with
    | ⟨0, _⟩ => rfl
    | ⟨1, _⟩ => rfl
    | ⟨2, _⟩ => rfl
    | ⟨3, _⟩ => rfl
  · exact shapeCast_apply x h1 (ix4 b p g (0 : Fin 1)) (ix3 b p g) (by rw [rm3, rm4, z1]; omega)

/-- The last axis split into groups. -/
theorem split_apply {α : Type} (x : S8x2048x5632.Idx → α) (h : S8x2048x5632.ShapeCasts S8x2048x44x128) (b : Fin 8) (p : Fin 2048) (g : Fin 44) (l : Fin 128)
    (c : Fin 5632) (hc : c.val = 128 * g.val + l.val) : shapeCast S8x2048x44x128 x h (ix4 b p g l) = x (ix3 b p c) :=
  shapeCast_apply x h (ix4 b p g l) (ix3 b p c) (by rw [rm3, rm4, hc]; omega)

/-- The groups put side by side again, -/
theorem join_apply {α : Type} (x : S8x2048x44x128.Idx → α) (h : S8x2048x44x128.ShapeCasts S8x2048x5632) (b : Fin 8) (p : Fin 2048) (g : Fin 44) (l : Fin 128)
    (c : Fin 5632) (hc : c.val = 128 * g.val + l.val) : shapeCast S8x2048x5632 x h (ix3 b p c) = x (ix4 b p g l) :=
  shapeCast_apply x h (ix3 b p c) (ix4 b p g l) (by rw [rm3, rm4, hc]; omega)

/-- by row. -/
theorem joinRow_apply {α : Type} (x : S8x2048x44x128.Idx → α) (h : S8x2048x44x128.ShapeCasts S16384x5632) (b : Fin 8) (p : Fin 2048) (g : Fin 44) (l : Fin 128)
    (R : Fin 16384) (hR : R.val = 2048 * b.val + p.val) (c : Fin 5632) (hc : c.val = 128 * g.val + l.val) :
    shapeCast S16384x5632 x h (ix2 R c) = x (ix4 b p g l) :=
  shapeCast_apply x h (ix2 R c) (ix4 b p g l) (by rw [rm2, rm4, hc, hR]; omega)

theorem lift44 (h : S8x2048x44x128.Reduces [3] S8x2048x44) (b : Fin 8) (p : Fin 2048) (g : Fin 44) (l : Fin 128) :
    h.lift (ix3 b p g) l = ix4 b p g l := by
  funext a
  match a with
  | ⟨0, _⟩ => rfl
  | ⟨1, _⟩ => rfl
  | ⟨2, _⟩ => rfl
  | ⟨3, _⟩ => rfl

/-- A group's maximum. -/
theorem max_apply (x : FVec Ideal S8x2048x44x128 .f32) (b : Fin 8) (p : Fin 2048) (g : Fin 44) :
    multiReduction .maximumf [3] S8x2048x44 x 0xFF800000#32 reduces_S8x2048x44x128_S8x2048x44 (.inl rfl) rfl (ix3 b p g)
      = (Finset.univ : Finset (Fin 128)).fold max (Ideal.ofBits .f32 0xFF800000#32) fun k => x (ix4 b p g k) := by
  refine (Ideal.multiReduction_maximumf_single x 0xFF800000#32 reduces_S8x2048x44x128_S8x2048x44 (.inl rfl) rfl (ix3 b p g)).trans ?_
  exact Finset.fold_congr fun (k : Fin 128) _ => congrArg x (lift44 _ b p g k)

/-! ## One element at a time -/

theorem mulf_at {φ : FTy} {t : Shape} (x y : FVec Ideal t φ) (i : t.Idx) : mulf x y i = (x i * y i : EReal) := rfl
theorem mulc_at {t : Shape} (x : FVec Ideal t .f32) (c : BitVec 32) (i : t.Idx) :
    mulf x (broadcast t (Scalar.ofBits .f32 c : Ideal .f32)) i = (x i * Ideal.ofBits .f32 c : EReal) := rfl
theorem exp2_at {t : Shape} (x : FVec Ideal t .f32) (i : t.Idx) : exp2 x i = Ideal.exp2 (x i) := rfl
theorem exp2_sub_at {t : Shape} (x : FVec Ideal t .f32) (c : BitVec 32) (i : t.Idx) :
    exp2 (subf (broadcast t (Scalar.ofBits .f32 c : Ideal .f32)) x) i = Ideal.exp2 (Ideal.ofBits .f32 c - x i : EReal) := rfl
theorem extf_at {φ ψ : FTy} {t : Shape} (x : FVec Ideal t φ) (h : φ.bits < ψ.bits) (i : t.Idx) : extf ψ x h i = x i := rfl
theorem truncf_at {φ ψ : FTy} {t : Shape} (x : FVec Ideal t φ) (h : ψ.bits < φ.bits) (i : t.Idx) : truncf ψ x h i = x i := rfl

/-! ## The quantiser -/

variable (u : Vec Ideal S8x2048x5632 .bf16) (s : Vec Ideal S131x44 .f32) (w : Vec Ideal S16768x5632 .fp8e4m3)

/-- The activations by group. -/
theorem pay7_apply (b : Fin 8) (p : Fin 2048) (g : Fin 44) (l : Fin 128) :
    k0_pay7 u (ix4 b p g l) = actN u (2048 * b.val + p.val) (128 * g.val + l.val) := by
  unfold k0_pay7
  refine (split_apply _ _ b p g l (⟨128 * g.val + l.val, by omega⟩ : Fin 5632) rfl).trans ?_
  exact (extf_at u _ _).trans (actN_eq u b p _ rfl rfl).symm

/-- A group's ratio, of any values. -/
theorem ratio_apply (x : FVec Ideal S8x2048x44x128 .f32) (b : Fin 8) (p : Fin 2048) (g : Fin 44) :
    mulf (multiReduction .maximumf [3] S8x2048x44 (absf x) 0xFF800000#32 reduces_S8x2048x44x128_S8x2048x44 (.inl rfl) rfl)
      (broadcast S8x2048x44 (Scalar.ofBits .f32 0x3B124925#32 : Ideal .f32)) (ix3 b p g) = ratio fun l => x (ix4 b p g l) := by
  unfold ratio amax
  exact (mulc_at _ _ _).trans (congrArg (fun x : EReal => x * Ideal.ofBits .f32 0x3B124925#32) (max_apply (absf x) b p g))

/-- The exponent of a ratio. -/
theorem exp_apply (x : FVec Ideal S8x2048x44 .f32) (i : S8x2048x44.Idx) :
    select (cmpf .olt x (broadcast S8x2048x44 (Scalar.ofBits .f32 0x00800000#32 : Ideal .f32))) (broadcast S8x2048x44 (Scalar.ofBits .f32 0x00000000#32 : Ideal .f32))
      (addf (floor (divf (log x) (log (broadcast S8x2048x44 (Scalar.ofBits .f32 0x40000000#32 : Ideal .f32)))))
        (broadcast S8x2048x44 (Scalar.ofBits .f32 0x3F800000#32 : Ideal .f32))) i = rExp (x i) := by
  unfold rExp
  refine Eq.trans (b := Scalar.select (BitVec.ofBool (decide (x i < Ideal.ofBits .f32 0x00800000#32))) (Ideal.ofBits .f32 0x00000000#32)
    (Ideal.liftRound Int.floor (Ideal.div (Ideal.log (x i)) (Ideal.log (Ideal.ofBits .f32 0x40000000#32))) + Ideal.ofBits .f32 0x3F800000#32)) rfl ?_
  by_cases h : x i < Ideal.ofBits .f32 0x00800000#32
  · rw [if_pos h, decide_eq_true h]; rfl
  · rw [if_neg h, decide_eq_false h]; rfl

/-- The scale's exponent, -/
theorem pay8_apply (b : Fin 8) (p : Fin 2048) (g : Fin 44) :
    k0_pay8 u (ix3 b p g) = rExp (ratio (grpOf (actN u) (2048 * b.val + p.val) g.val)) := by
  unfold k0_pay8
  refine (exp_apply _ (ix3 b p g)).trans (congrArg rExp ?_)
  refine (ratio_apply (k0_pay7 u) b p g).trans (congrArg ratio ?_)
  funext l
  exact pay7_apply u b p g l

/-- the scale, -/
theorem pay9_apply (b : Fin 8) (p : Fin 2048) (g : Fin 44) : k0_pay9 u (ix3 b p g) = scaleS (actN u) (2048 * b.val + p.val) g.val := by
  unfold k0_pay9 scaleS rScale
  exact (exp2_at (k0_pay8 u) _).trans (congrArg Ideal.exp2 (pay8_apply u b p g))

/-- Any values times an inverse scale, clipped. -/
theorem clip_apply (x y : FVec Ideal S8x2048x44x128 .f32) (i : S8x2048x44x128.Idx) :
    truncf .fp8e4m3 (minimumf (broadcast S8x2048x44x128 (Scalar.ofBits .f32 0x43E00000#32 : Ideal .f32))
      (maximumf (broadcast S8x2048x44x128 (Scalar.ofBits .f32 0xC3E00000#32 : Ideal .f32)) (mulf x y))) bitsLt_fp8e4m3_f32 i = code (x i) (y i) := rfl

/-- and the codes, by group. -/
theorem pay10_apply (b : Fin 8) (p : Fin 2048) (g : Fin 44) (l : Fin 128) :
    k0_pay10 u (ix4 b p g l) = codeS (actN u) (2048 * b.val + p.val) (128 * g.val + l.val) := by
  unfold codeS k0_pay10
  refine (clip_apply (k0_pay7 u) _ (ix4 b p g l)).trans ?_
  refine congrArg₂ code (pay7_apply u b p g l) ((spread_apply _ _ _ b p g l).trans ?_)
  rw [show (128 * g.val + l.val) / 128 = g.val by omega]
  unfold rInv
  exact (exp2_sub_at (k0_pay8 u) _ _).trans (congrArg (fun x : EReal => Ideal.exp2 (Ideal.ofBits .f32 0x00000000#32 - x)) (pay8_apply u b p g))

/-- The codes in place. -/
theorem pay11_apply (b : Fin 8) (p : Fin 2048) (c : Fin 5632) : k0_pay11 u (ix3 b p c) = codeS (actN u) (2048 * b.val + p.val) c.val := by
  have hc : c.val = 128 * (c.val / 128) + c.val % 128 := by omega
  unfold k0_pay11
  refine (join_apply _ _ b p (⟨c.val / 128, by omega⟩ : Fin 44) (⟨c.val % 128, Nat.mod_lt _ (by decide)⟩ : Fin 128) c hc).trans ?_
  refine (pay10_apply u b p _ _).trans (congrArg (codeS (actN u) (2048 * b.val + p.val)) ?_)
  exact hc.symm

/-- The codes scaled back, by row. -/
theorem pay12_apply (b : Fin 8) (p : Fin 2048) (R : Fin 16384) (hR : R.val = 2048 * b.val + p.val) (k : Fin 5632) :
    k0_pay12 u (ix2 R k) = codeS (actN u) (2048 * b.val + p.val) k.val * scaleS (actN u) (2048 * b.val + p.val) (k.val / 128) := by
  have hk : k.val = 128 * (k.val / 128) + k.val % 128 := by omega
  unfold k0_pay12
  refine (joinRow_apply _ _ b p (⟨k.val / 128, by omega⟩ : Fin 44) (⟨k.val % 128, Nat.mod_lt _ (by decide)⟩ : Fin 128) R hR k hk).trans ?_
  refine (mulf_at _ _ _).trans (congrArg₂ (fun x y : EReal => x * y) ?_ ((spread_apply _ _ _ b p _ _).trans ((truncf_at (ψ := .bf16) (k0_pay9 u) bitsLt_bf16_f32 _).trans (pay9_apply u b p _))))
  refine (extf_at (ψ := .bf16) (k0_pay10 u) bitsLt_fp8e4m3_bf16 _).trans ?_
  exact (pay10_apply u b p _ _).trans (congrArg (codeS (actN u) (2048 * b.val + p.val)) hk.symm)

/-! ## The weights -/

/-- The weights scaled back. -/
def wBack : FVec Ideal S16768x5632 .bf16 :=
  shapeCast S16768x5632 (mulf (shapeCast S16768x44x128 (extf .bf16 w bitsLt_fp8e4m3_bf16) shapeCasts_S16768x5632_S16768x44x128)
    (broadcastTo S16768x44x128 (shapeCast S16768x44x1 (truncf .bf16 (shapeCast S16768x44 (broadcastTo S131x128x44
      (shapeCast S131x1x44 s shapeCasts_S131x44_S131x1x44) broadcasts_S131x1x44_S131x128x44) shapeCasts_S131x128x44_S16768x44) bitsLt_bf16_f32)
      shapeCasts_S16768x44_S16768x44x1) broadcasts_S16768x44x1_S16768x44x128)) shapeCasts_S16768x44x128_S16768x5632

theorem wSplit_apply {α : Type} (x : S16768x5632.Idx → α) (h : S16768x5632.ShapeCasts S16768x44x128) (n : Fin 16768) (g : Fin 44) (l : Fin 128)
    (k : Fin 5632) (hk : k.val = 128 * g.val + l.val) : shapeCast S16768x44x128 x h (ix3 n g l) = x (ix2 n k) :=
  shapeCast_apply x h (ix3 n g l) (ix2 n k) (by rw [rm2, rm3, hk]; omega)

theorem wJoin_apply {α : Type} (x : S16768x44x128.Idx → α) (h : S16768x44x128.ShapeCasts S16768x5632) (n : Fin 16768) (g : Fin 44) (l : Fin 128)
    (k : Fin 5632) (hk : k.val = 128 * g.val + l.val) : shapeCast S16768x5632 x h (ix2 n k) = x (ix3 n g l) :=
  shapeCast_apply x h (ix2 n k) (ix3 n g l) (by rw [rm2, rm3, hk]; omega)

/-- One scale per row and group, spread over the group's columns. -/
theorem wSpread_apply {α : Type} (x : S16768x44.Idx → α) (h1 : S16768x44.ShapeCasts S16768x44x1) (h2 : S16768x44x1.Broadcasts S16768x44x128)
    (n : Fin 16768) (g : Fin 44) (l : Fin 128) :
    broadcastTo S16768x44x128 (shapeCast S16768x44x1 x h1) h2 (ix3 n g l) = x (ix2 n g) := by
  refine (broadcastTo_apply _ h2 (ix3 n g l) (ix3 n g (0 : Fin 1)) fun a => ?_).trans ?_
  · match a with
    | ⟨0, _⟩ => rfl
    | ⟨1, _⟩ => rfl
    | ⟨2, _⟩ => rfl
  · exact shapeCast_apply x h1 (ix3 n g (0 : Fin 1)) (ix2 n g) (by rw [rm2, rm3, z1]; omega)

/-- One scale per tile, repeated for the tile's 128 rows. -/
theorem wRep_apply {α : Type} (x : S131x44.Idx → α) (h1 : S131x44.ShapeCasts S131x1x44) (h2 : S131x1x44.Broadcasts S131x128x44)
    (h3 : S131x128x44.ShapeCasts S16768x44) (n : Fin 16768) (q : Fin 131) (r : Fin 128) (hn : n.val = 128 * q.val + r.val) (g : Fin 44) :
    shapeCast S16768x44 (broadcastTo S131x128x44 (shapeCast S131x1x44 x h1) h2) h3 (ix2 n g) = x (ix2 q g) := by
  refine (shapeCast_apply _ h3 (ix2 n g) (ix3 q r g) (by rw [rm2, rm3, hn]; omega)).trans ?_
  refine (broadcastTo_apply _ h2 (ix3 q r g) (ix3 q (0 : Fin 1) g) fun a => ?_).trans ?_
  · match a with
    | ⟨0, _⟩ => rfl
    | ⟨1, _⟩ => rfl
    | ⟨2, _⟩ => rfl
  · exact shapeCast_apply x h1 (ix3 q (0 : Fin 1) g) (ix2 q g) (by rw [rm2, rm3, z1]; omega)

theorem wBack_apply (n : Fin 16768) (k : Fin 5632) : wBack s w (ix2 n k) = wgtN w n.val k.val * sclN s (n.val / 128) (k.val / 128) := by
  have hk : k.val = 128 * (k.val / 128) + k.val % 128 := by omega
  have hn : n.val = 128 * (n.val / 128) + n.val % 128 := by omega
  unfold wBack
  refine (wJoin_apply _ _ n (⟨k.val / 128, by omega⟩ : Fin 44) (⟨k.val % 128, Nat.mod_lt _ (by decide)⟩ : Fin 128) k hk).trans ?_
  refine (mulf_at _ _ _).trans (congrArg₂ (fun x y : EReal => x * y) ((wSplit_apply _ _ n _ _ k hk).trans ((extf_at (φ := .fp8e4m3) (ψ := .bf16) w bitsLt_fp8e4m3_bf16 _).trans (wgtN_eq w n k).symm))
    ((wSpread_apply _ _ _ n _ _).trans ((truncf_at (ψ := .bf16) _ bitsLt_bf16_f32 _).trans ?_)))
  refine (wRep_apply s _ _ _ n (⟨n.val / 128, by omega⟩ : Fin 131) (⟨n.val % 128, Nat.mod_lt _ (by decide)⟩ : Fin 128) hn (⟨k.val / 128, by omega⟩ : Fin 44)).trans ?_
  exact (sclN_eq s (⟨n.val / 128, by omega⟩ : Fin 131) (⟨k.val / 128, by omega⟩ : Fin 44)).symm

/-! ## The projection -/

theorem rows_apply {α : Type} (x : S16384x16768.Idx → α) (h : S16384x16768.ShapeCasts S8x2048x16768) (b : Fin 8) (p : Fin 2048)
    (R : Fin 16384) (hR : R.val = 2048 * b.val + p.val) (n : Fin 16768) : shapeCast S8x2048x16768 x h (ix3 b p n) = x (ix2 R n) :=
  shapeCast_apply x h (ix3 b p n) (ix2 R n) (by rw [rm2, rm3, hR]; omega)

/-- A product of rows, from zero. -/
theorem dot_apply (x : FVec Ideal S16384x5632 .bf16) (y : FVec Ideal S16768x5632 .bf16) (R : Fin 16384) (n : Fin 16768) :
    matmul dot_S16384x5632_S16768x5632_S16384x16768_1_1_0_0_n_n none x y (constant S16384x16768 .f32 0x00000000#32) (ix2 R n)
      = ∑ k : Fin 5632, x (ix2 R k) * y (ix2 n k) := by
  refine (Ideal.matmul_transposedRhs_apply (φ₁ := .bf16) (φ₂ := .bf16) none x y _ R n).trans ?_
  show Ideal.ofBits .f32 0x00000000#32 + _ = _
  rw [Ideal.ofBits_zero_f32, zero_add]

/-- The projection, all columns. -/
theorem pay1_apply (b : Fin 8) (p : Fin 2048) (n : Fin 16768) :
    k0_pay1 (k0_pay12 u) s w (ix3 b p n) = projS (actN u) (wgtN w) (sclN s) (2048 * b.val + p.val) n.val := by
  refine Eq.trans (b := shapeCast S8x2048x16768 (matmul dot_S16384x5632_S16768x5632_S16384x16768_1_1_0_0_n_n none (k0_pay12 u) (wBack s w)
    (constant S16384x16768 .f32 0x00000000#32)) shapeCasts_S16384x16768_S8x2048x16768 (ix3 b p n)) rfl ?_
  refine (rows_apply _ _ b p (⟨2048 * b.val + p.val, by omega⟩ : Fin 16384) rfl n).trans ?_
  refine (dot_apply _ _ _ n).trans ?_
  unfold projS
  exact Finset.sum_congr rfl fun k _ => congrArg₂ (fun x y : EReal => x * y) (pay12_apply u b p _ rfl k) (wBack_apply s w n k)

end Cert.InProj.Ref
end
-- ==== Proof.RefRun.lean ====
/- What the reference's run leaves in its seven results: one function of the arguments each. -/
module

public import proofs.«01_k».proof.Proof.Gen.ReferenceIdeal.Frame
public import Idealize.ShloMosaic.Lib.Pipeline.Value

@[expose] public section

noncomputable section

namespace Cert.InProj.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x2048x5632.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 5632 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16768x5632.Idx) : ((cfg0.win 1).blk t).view.emb j = j := by
  obtain ⟨e0, e1⟩ := idx_zero1 t
  funext a; apply Fin.ext
  match a with
  | ⟨0, _⟩ => show win0_1.index t (0 : Fin 2) * 16768 + 1 * (j 0).val = (j 0).val; omega
  | ⟨1, _⟩ => show win0_1.index t (1 : Fin 2) * 5632 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S131x44.Idx) : ((cfg0.win 2).blk t).view.emb j = j := by
  obtain ⟨e0, e1⟩ := idx_zero2 t
  funext a; apply Fin.ext
  match a with
  | ⟨0, _⟩ => show win0_2.index t (0 : Fin 2) * 131 + 1 * (j 0).val = (j 0).val; omega
  | ⟨1, _⟩ => show win0_2.index t (1 : Fin 2) * 44 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S8x2048x8192.Idx) : ((cfg0.win 3).blk t).view.emb j = j := by
  obtain ⟨e0, e1, e2⟩ := idx_zero3 t
  funext a; apply Fin.ext
  match a with
  | ⟨0, _⟩ => show win0_3.index t (0 : Fin 3) * 8 + 1 * (j 0).val = (j 0).val; omega
  | ⟨1, _⟩ => show win0_3.index t (1 : Fin 3) * 2048 + 1 * (j 1).val = (j 1).val; omega
  | ⟨2, _⟩ => show win0_3.index t (2 : Fin 3) * 8192 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S8x2048x8192.Idx) : ((cfg0.win 4).blk t).view.emb j = j := by
  obtain ⟨e0, e1, e2⟩ := idx_zero4 t
  funext a; apply Fin.ext
  match a with
  | ⟨0, _⟩ => show win0_4.index t (0 : Fin 3) * 8 + 1 * (j 0).val = (j 0).val; omega
  | ⟨1, _⟩ => show win0_4.index t (1 : Fin 3) * 2048 + 1 * (j 1).val = (j 1).val; omega
  | ⟨2, _⟩ => show win0_4.index t (2 : Fin 3) * 8192 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S8x2048x128.Idx) : ((cfg0.win 5).blk t).view.emb j = j := by
  obtain ⟨e0, e1, e2⟩ := idx_zero5 t
  funext a; apply Fin.ext
  match a with
  | ⟨0, _⟩ => show win0_5.index t (0 : Fin 3) * 8 + 1 * (j 0).val = (j 0).val; omega
  | ⟨1, _⟩ => show win0_5.index t (1 : Fin 3) * 2048 + 1 * (j 1).val = (j 1).val; omega
  | ⟨2, _⟩ => show win0_5.index t (2 : Fin 3) * 128 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S8x2048x128.Idx) : ((cfg0.win 6).blk t).view.emb j = j := by
  obtain ⟨e0, e1, e2⟩ := idx_zero6 t
  funext a; apply Fin.ext
  match a with
  | ⟨0, _⟩ => show win0_6.index t (0 : Fin 3) * 8 + 1 * (j 0).val = (j 0).val; omega
  | ⟨1, _⟩ => show win0_6.index t (1 : Fin 3) * 2048 + 1 * (j 1).val = (j 1).val; omega
  | ⟨2, _⟩ => show win0_6.index t (2 : Fin 3) * 128 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x2048x128.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 2048 + 1 * (j 1).val = (j 1).val; omega
  | ⟨2, _⟩ => show win0_7.index t (2 : Fin 3) * 128 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x2048x5632.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 2048 + 1 * (j 1).val = (j 1).val; omega
  | ⟨2, _⟩ => show win0_8.index t (2 : Fin 3) * 5632 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S8x2048x44.Idx) : ((cfg0.win 9).blk t).view.emb j = j := by
  obtain ⟨e0, e1, e2⟩ := idx_zero9 t
  funext a; apply Fin.ext
  match a with
  | ⟨0, _⟩ => show win0_9.index t (0 : Fin 3) * 8 + 1 * (j 0).val = (j 0).val; omega
  | ⟨1, _⟩ => show win0_9.index t (1 : Fin 3) * 2048 + 1 * (j 1).val = (j 1).val; omega
  | ⟨2, _⟩ => show win0_9.index t (2 : Fin 3) * 44 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S8x2048x5632 .bf16) (a1 : Vec F S16768x5632 .fp8e4m3) (a2 : Vec F S131x44 .f32) : Vec F S8x2048x8192 .bf16 :=
  k0_pay2 (k0_pay13 a0 a1 a2) a2 a1

/-- A load of the whole of a block reads the block, and the one store through the whole rectangle leaves its payload. -/
theorem out3_eq (a0 : Vec F S8x2048x5632 .bf16) (a1 : Vec F S16768x5632 .fp8e4m3) (a2 : Vec F S131x44 .f32) : out0_3 (F := F) a0 a1 a2 = G3 a0 a1 a2 := by
  unfold out0_3
  rw [View.canon_unit_zero hz3, View.ld_unit_zero (S := S131x44) hz2 _ a2, View.ld_unit_zero (S := S16768x5632) hz1 _ a1]

/-- Cutting the point's block out of `X` and reading `X` through the block's view give the same. -/
theorem cut3_eq (t : Fin cfg0.N) (X : Vec F S8x2048x8192 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S8x2048x8192.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S8x2048x5632 .bf16) (a1 : Vec F S16768x5632 .fp8e4m3) (a2 : Vec F S131x44 .f32) : Vec F S8x2048x8192 .bf16 :=
  k0_pay3 (k0_pay13 a0 a1 a2) a2 a1

/-- A load of the whole of a block reads the block, and the one store through the whole rectangle leaves its payload. -/
theorem out4_eq (a0 : Vec F S8x2048x5632 .bf16) (a1 : Vec F S16768x5632 .fp8e4m3) (a2 : Vec F S131x44 .f32) : out0_4 (F := F) a0 a1 a2 = G4 a0 a1 a2 := by
  unfold out0_4
  rw [View.canon_unit_zero hz4, View.ld_unit_zero (S := S131x44) hz2 _ a2, View.ld_unit_zero (S := S16768x5632) hz1 _ a1]

/-- Cutting the point's block out of `X` and reading `X` through the block's view give the same. -/
theorem cut4_eq (t : Fin cfg0.N) (X : Vec F S8x2048x8192 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S8x2048x8192.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S8x2048x5632 .bf16) (a1 : Vec F S16768x5632 .fp8e4m3) (a2 : Vec F S131x44 .f32) : Vec F S8x2048x128 .bf16 :=
  k0_pay4 (k0_pay13 a0 a1 a2) a2 a1

/-- A load of the whole of a block reads the block, and the one store through the whole rectangle leaves its payload. -/
theorem out5_eq (a0 : Vec F S8x2048x5632 .bf16) (a1 : Vec F S16768x5632 .fp8e4m3) (a2 : Vec F S131x44 .f32) : out0_5 (F := F) a0 a1 a2 = G5 a0 a1 a2 := by
  unfold out0_5
  rw [View.canon_unit_zero hz5, View.ld_unit_zero (S := S131x44) hz2 _ a2, View.ld_unit_zero (S := S16768x5632) hz1 _ a1]

/-- Cutting the point's block out of `X` and reading `X` through the block's view give the same. -/
theorem cut5_eq (t : Fin cfg0.N) (X : Vec F S8x2048x128 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S8x2048x128.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S8x2048x5632 .bf16) (a1 : Vec F S16768x5632 .fp8e4m3) (a2 : Vec F S131x44 .f32) : Vec F S8x2048x128 .bf16 :=
  k0_pay5 (k0_pay13 a0 a1 a2) a2 a1

/-- A load of the whole of a block reads the block, and the one store through the whole rectangle leaves its payload. -/
theorem out6_eq (a0 : Vec F S8x2048x5632 .bf16) (a1 : Vec F S16768x5632 .fp8e4m3) (a2 : Vec F S131x44 .f32) : out0_6 (F := F) a0 a1 a2 = G6 a0 a1 a2 := by
  unfold out0_6
  rw [View.canon_unit_zero hz6, View.ld_unit_zero (S := S131x44) hz2 _ a2, View.ld_unit_zero (S := S16768x5632) hz1 _ a1]

/-- Cutting the point's block out of `X` and reading `X` through the block's view give the same. -/
theorem cut6_eq (t : Fin cfg0.N) (X : Vec F S8x2048x128 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S8x2048x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S8x2048x5632 .bf16) (a1 : Vec F S16768x5632 .fp8e4m3) (a2 : Vec F S131x44 .f32) : Vec F S8x2048x128 .bf16 :=
  k0_pay6 (k0_pay13 a0 a1 a2) a2 a1

/-- A load of the whole of a block reads the block, and the one store through the whole rectangle leaves its payload. -/
theorem out7_eq (a0 : Vec F S8x2048x5632 .bf16) (a1 : Vec F S16768x5632 .fp8e4m3) (a2 : Vec F S131x44 .f32) : out0_7 (F := F) a0 a1 a2 = G7 a0 a1 a2 := by
  unfold out0_7
  rw [View.canon_unit_zero hz7, View.ld_unit_zero (S := S131x44) hz2 _ a2, View.ld_unit_zero (S := S16768x5632) hz1 _ a1]

/-- Cutting the point's block out of `X` and reading `X` through the block's view give the same. -/
theorem cut7_eq (t : Fin cfg0.N) (X : Vec F S8x2048x128 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S8x2048x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S8x2048x5632 .bf16) (a1 : Vec F S16768x5632 .fp8e4m3) (a2 : Vec F S131x44 .f32) : Vec F S8x2048x5632 .fp8e4m3 :=
  k0_pay11 a0

/-- A load of the whole of a block reads the block, and the one store through the whole rectangle leaves its payload. -/
theorem out8_eq (a0 : Vec F S8x2048x5632 .bf16) (a1 : Vec F S16768x5632 .fp8e4m3) (a2 : Vec F S131x44 .f32) : out0_8 (F := F) a0 a1 a2 = G8 a0 a1 a2 := by
  unfold out0_8
  rw [View.canon_unit_zero hz8, View.ld_unit_zero (S := S8x2048x5632) hz0 _ a0]

/-- Cutting the point's block out of `X` and reading `X` through the block's view give the same. -/
theorem cut8_eq (t : Fin cfg0.N) (X : Vec F S8x2048x5632 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S8x2048x5632.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks (a value that the
    frame states apart, `kK_payN a…`, keeps its loads inside its own definition). -/
abbrev G9 (a0 : Vec F S8x2048x5632 .bf16) (a1 : Vec F S16768x5632 .fp8e4m3) (a2 : Vec F S131x44 .f32) : Vec F S8x2048x44 .f32 :=
  k0_pay9 a0

/-- A load of the whole of a block reads the block, and the one store through the whole rectangle leaves its payload. -/
theorem out9_eq (a0 : Vec F S8x2048x5632 .bf16) (a1 : Vec F S16768x5632 .fp8e4m3) (a2 : Vec F S131x44 .f32) : out0_9 (F := F) a0 a1 a2 = G9 a0 a1 a2 := by
  unfold out0_9
  rw [View.canon_unit_zero hz9, View.ld_unit_zero (S := S8x2048x5632) hz0 _ a0]

/-- Cutting the point's block out of `X` and reading `X` through the block's view give the same. -/
theorem cut9_eq (t : Fin cfg0.N) (X : Vec F S8x2048x44 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S8x2048x44.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.InProj.RefRun

end
-- ==== Proof.RefVal.lean ====
/- The reference's seven results, element by element. -/
module

public import proofs.«01_k».proof.Proof.RVal
public import proofs.«01_k».proof.Proof.RefRun

@[expose] public section

noncomputable section

namespace Cert.InProj.Ref

open Idealize.ShloMosaic Cert.ReferenceIdeal Cert.ReferenceIdeal.Gen
open Idealize.ShloMosaic.ValueIdx

variable (a0 : Vec Ideal S8x2048x5632 .bf16) (a1 : Vec Ideal S16768x5632 .fp8e4m3) (a2 : Vec Ideal S131x44 .f32)

theorem load_whole : k0_pay13 a0 a1 a2 = k0_pay12 a0 := by
  unfold k0_pay13
  rw [View.ld_unit_zero (S := S8x2048x5632) RefRun.hz0 _ a0]

/-- The first wide result. -/
theorem G3_apply (b : Fin 8) (p : Fin 2048) (n : Fin 8192) :
    RefRun.G3 (F := Ideal) a0 a1 a2 (ix3 b p n) = projS (actN a0) (wgtN a1) (sclN a2) (2048 * b.val + p.val) (0 + n.val) := by
  unfold RefRun.G3 k0_pay2
  rw [load_whole]
  refine (truncf_at (ψ := .bf16) _ bitsLt_bf16_f32 _).trans <| (extractStridedSlice_apply (s := S8x2048x16768) (t := S8x2048x8192) ![0, 0, 0] (k0_pay1 (k0_pay12 a0) a2 a1) slices_S8x2048x16768_o0_0_0_S8x2048x8192 (ix3 b p n)
    (ix3 b p (⟨0 + n.val, by omega⟩ : Fin 16768)) fun a => ?_).trans (pay1_apply a0 a2 a1 b p _)
  match a with
  | ⟨0, _⟩ => exact (Nat.zero_add _).symm
  | ⟨1, _⟩ => exact (Nat.zero_add _).symm
  | ⟨2, _⟩ => rfl

/-- The second wide result. -/
theorem G4_apply (b : Fin 8) (p : Fin 2048) (n : Fin 8192) :
    RefRun.G4 (F := Ideal) a0 a1 a2 (ix3 b p n) = projS (actN a0) (wgtN a1) (sclN a2) (2048 * b.val + p.val) (8192 + n.val) := by
  unfold RefRun.G4 k0_pay3
  rw [load_whole]
  refine (truncf_at (ψ := .bf16) _ bitsLt_bf16_f32 _).trans <| (extractStridedSlice_apply (s := S8x2048x16768) (t := S8x2048x8192) ![0, 0, 8192] (k0_pay1 (k0_pay12 a0) a2 a1) slices_S8x2048x16768_o0_0_8192_S8x2048x8192 (ix3 b p n)
    (ix3 b p (⟨8192 + n.val, by omega⟩ : Fin 16768)) fun a => ?_).trans (pay1_apply a0 a2 a1 b p _)
  match a with
  | ⟨0, _⟩ => exact (Nat.zero_add _).symm
  | ⟨1, _⟩ => exact (Nat.zero_add _).symm
  | ⟨2, _⟩ => rfl

/-- The first narrow result. -/
theorem G5_apply (b : Fin 8) (p : Fin 2048) (n : Fin 128) :
    RefRun.G5 (F := Ideal) a0 a1 a2 (ix3 b p n) = projS (actN a0) (wgtN a1) (sclN a2) (2048 * b.val + p.val) (16384 + n.val) := by
  unfold RefRun.G5 k0_pay4
  rw [load_whole]
  refine (truncf_at (ψ := .bf16) _ bitsLt_bf16_f32 _).trans <| (extractStridedSlice_apply (s := S8x2048x16768) (t := S8x2048x128) ![0, 0, 16384] (k0_pay1 (k0_pay12 a0) a2 a1) slices_S8x2048x16768_o0_0_16384_S8x2048x128 (ix3 b p n)
    (ix3 b p (⟨16384 + n.val, by omega⟩ : Fin 16768)) fun a => ?_).trans (pay1_apply a0 a2 a1 b p _)
  match a with
  | ⟨0, _⟩ => exact (Nat.zero_add _).symm
  | ⟨1, _⟩ => exact (Nat.zero_add _).symm
  | ⟨2, _⟩ => rfl

/-- The second narrow result. -/
theorem G6_apply (b : Fin 8) (p : Fin 2048) (n : Fin 128) :
    RefRun.G6 (F := Ideal) a0 a1 a2 (ix3 b p n) = projS (actN a0) (wgtN a1) (sclN a2) (2048 * b.val + p.val) (16512 + n.val) := by
  unfold RefRun.G6 k0_pay5
  rw [load_whole]
  refine (truncf_at (ψ := .bf16) _ bitsLt_bf16_f32 _).trans <| (extractStridedSlice_apply (s := S8x2048x16768) (t := S8x2048x128) ![0, 0, 16512] (k0_pay1 (k0_pay12 a0) a2 a1) slices_S8x2048x16768_o0_0_16512_S8x2048x128 (ix3 b p n)
    (ix3 b p (⟨16512 + n.val, by omega⟩ : Fin 16768)) fun a => ?_).trans (pay1_apply a0 a2 a1 b p _)
  match a with
  | ⟨0, _⟩ => exact (Nat.zero_add _).symm
  | ⟨1, _⟩ => exact (Nat.zero_add _).symm
  | ⟨2, _⟩ => rfl

/-- The third narrow result. -/
theorem G7_apply (b : Fin 8) (p : Fin 2048) (n : Fin 128) :
    RefRun.G7 (F := Ideal) a0 a1 a2 (ix3 b p n) = projS (actN a0) (wgtN a1) (sclN a2) (2048 * b.val + p.val) (16640 + n.val) := by
  unfold RefRun.G7 k0_pay6
  rw [load_whole]
  refine (truncf_at (ψ := .bf16) _ bitsLt_bf16_f32 _).trans <| (extractStridedSlice_apply (s := S8x2048x16768) (t := S8x2048x128) ![0, 0, 16640] (k0_pay1 (k0_pay12 a0) a2 a1) slices_S8x2048x16768_o0_0_16640_S8x2048x128 (ix3 b p n)
    (ix3 b p (⟨16640 + n.val, by omega⟩ : Fin 16768)) fun a => ?_).trans (pay1_apply a0 a2 a1 b p _)
  match a with
  | ⟨0, _⟩ => exact (Nat.zero_add _).symm
  | ⟨1, _⟩ => exact (Nat.zero_add _).symm
  | ⟨2, _⟩ => rfl

/-- The codes. -/
theorem G8_apply (b : Fin 8) (p : Fin 2048) (k : Fin 5632) :
    RefRun.G8 (F := Ideal) a0 a1 a2 (ix3 b p k) = codeS (actN a0) (2048 * b.val + p.val) k.val :=
  pay11_apply a0 b p k

/-- The scales. -/
theorem G9_apply (b : Fin 8) (p : Fin 2048) (g : Fin 44) :
    RefRun.G9 (F := Ideal) a0 a1 a2 (ix3 b p g) = scaleS (actN a0) (2048 * b.val + p.val) g.val :=
  pay9_apply a0 b p g

end Cert.InProj.Ref
end
-- ==== Proof.Algebraic.lean ====
/- The kernel and the reference leave the same results. -/
module

public import proofs.«01_k».proof.Defs
public import proofs.«01_k».proof.Proof.KRun
public import proofs.«01_k».proof.Proof.RefVal
public import proofs.«01_k».proof.Proof.Gen.Pre_finite
public import Idealize.ShloMosaic.Lib.ReduceAll

@[expose] public section

noncomputable section

namespace Cert.InProj

open Idealize.ShloMosaic Idealize.ShloMosaic.TcCoe Idealize.ShloMosaic.ValueIdx Idealize.SL.Sem
open Cert.KernelIdeal (nD τ sig main_arg0 main_arg1 main_arg2)

variable (m : (ℓ : Loc nD τ sig) → Buf (Elt Ideal) ℓ)

/-! ## The precondition -/

/-- A comparison that came out true. -/
theorem le_of_ole {t : Shape} (x y : FVec Ideal t .f32) (i : t.Idx) (h : cmpf .ole x y i = 1#1) : (x i : EReal) ≤ y i := by
  have h' : BitVec.ofBool (decide ((x i : EReal) ≤ y i)) = 1#1 := h
  by_contra hn
  rw [decide_eq_false hn] at h'
  exact absurd h' (by decide)

/-- The size of a widened value. -/
theorem size_at {t : Shape} (u : FVec Ideal t .bf16) (h : FTy.bits .bf16 < FTy.bits .f32) (i : t.Idx) :
    (Host.absf (extf .f32 u h) i : EReal) = max (u i : EReal) (-(u i : EReal)) := rfl

instance : Subsingleton Cert.Pre_finite.S_.Idx := ⟨fun a b => funext fun x => x.elim0⟩

attribute [local instance] Cert.Pre_finite.Gen.facts

/-- The activations are all of finite size. -/
theorem pre_bound (a0 : FVec Ideal Cert.Pre_finite.S8x2048x5632 .bf16) (a1 a2)
    (h : Cert.Pre_finite.fn (F := Ideal) a0 a1 a2 = fun _ => 1#1) (i : Cert.Pre_finite.S8x2048x5632.Idx) :
    max (a0 i : EReal) (-(a0 i : EReal)) ≤ Ideal.ofBits .f32 0x7F7F0000#32 := by
  have h1 := congrFun h (fun x => x.elim0)
  unfold Cert.Pre_finite.fn at h1
  have h2 := le_of_ole _ _ i (Host.reduce_andi_all _ _ _ _ _ h1 i)
  exact le_of_eq_of_le (size_at a0 _ i).symm h2

theorem pre_rows (h : Cert.Pre_KernelIdeal_finite m) (c : Dev nD) (R k : Nat) :
    max (kU m c R k) (-(kU m c R k)) ≤ Ideal.ofBits .f32 0x7F7F0000#32 := pre_bound _ _ _ (h c) _

/-! ## The results are the reference's -/

section
variable (c : Dev nD) (a0 : Vec Ideal Cert.ReferenceIdeal.S8x2048x5632 .bf16) (a1 : Vec Ideal Cert.ReferenceIdeal.S16768x5632 .fp8e4m3)
  (a2 : Vec Ideal Cert.ReferenceIdeal.S131x44 .f32)
  (e0 : a0 = m ((c.tc : Thread nD τ).loc main_arg0)) (e1 : a1 = m ((c.tc : Thread nD τ).loc main_arg1)) (e2 : a2 = m ((c.tc : Thread nD τ).loc main_arg2))
include e0 e1 e2

theorem same3 : RefRun.G3 (F := Ideal) a0 a1 a2 = res3 m c := by
  subst e0 e1 e2
  funext i
  rw [eq_ix3 i]
  exact (Ref.G3_apply _ _ _ (i 0) (i 1) (i 2)).trans (res3_apply m c (i 0) (i 1) (i 2)).symm

theorem same4 : RefRun.G4 (F := Ideal) a0 a1 a2 = res4 m c := by
  subst e0 e1 e2
  funext i
  rw [eq_ix3 i]
  exact (Ref.G4_apply _ _ _ (i 0) (i 1) (i 2)).trans (res4_apply m c (i 0) (i 1) (i 2)).symm

theorem same5 : RefRun.G5 (F := Ideal) a0 a1 a2 = res5 m c := by
  subst e0 e1 e2
  funext i
  rw [eq_ix3 i]
  exact (Ref.G5_apply _ _ _ (i 0) (i 1) (i 2)).trans (res5_apply m c (i 0) (i 1) (i 2)).symm

theorem same6 : RefRun.G6 (F := Ideal) a0 a1 a2 = res6 m c := by
  subst e0 e1 e2
  funext i
  rw [eq_ix3 i]
  exact (Ref.G6_apply _ _ _ (i 0) (i 1) (i 2)).trans (res6_apply m c (i 0) (i 1) (i 2)).symm

theorem same7 : RefRun.G7 (F := Ideal) a0 a1 a2 = res7 m c := by
  subst e0 e1 e2
  funext i
  rw [eq_ix3 i]
  exact (Ref.G7_apply _ _ _ (i 0) (i 1) (i 2)).trans (res7_apply m c (i 0) (i 1) (i 2)).symm

theorem same8 : RefRun.G8 (F := Ideal) a0 a1 a2 = res8 m c := by
  subst e0 e1 e2
  funext i
  rw [eq_ix3 i]
  exact (Ref.G8_apply _ _ _ (i 0) (i 1) (i 2)).trans (res8_apply m c (i 0) (i 1) (i 2)).symm

theorem same9 : RefRun.G9 (F := Ideal) a0 a1 a2 = res9 m c := by
  subst e0 e1 e2
  funext i
  rw [eq_ix3 i]
  exact (Ref.G9_apply _ _ _ (i 0) (i 1) (i 2)).trans (res9_apply m c (i 0) (i 1) (i 2)).symm

end

/-! ## The claim -/

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨res3 m, res4 m, res5 m, res6 m, res7 m, res8 m, res9 m, run_value m g (pre_rows m hpre), ?_⟩
  refine (θ_run _ _ _).mono (fun r h c => ?_) (RefRun.run (F := Ideal) m' g')
  obtain ⟨e0, e1, e2⟩ := hargs c
  obtain ⟨h3, h4, h5, h6, h7, h8, h9, k0, k1, k2⟩ := h c
  exact ⟨h3.trans (same3 m c _ _ _ e0 e1 e2), h4.trans (same4 m c _ _ _ e0 e1 e2), h5.trans (same5 m c _ _ _ e0 e1 e2), h6.trans (same6 m c _ _ _ e0 e1 e2),
    h7.trans (same7 m c _ _ _ e0 e1 e2), h8.trans (same8 m c _ _ _ e0 e1 e2), h9.trans (same9 m c _ _ _ e0 e1 e2), k0, k1, k2⟩

end Cert.InProj
end
-- ==== Proof.lean ====
/- The claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_finite.Gen.facts,
    Cert.InProj.frame_bits, Cert.InProj.frame_ideal, fun m ρ _ => Cert.InProj.frame_run m ρ,
    fun m ρ _ => Cert.ReferenceIdeal.Gen.frame m ρ, fun m ρ _ => Cert.ReferenceIdeal.Gen.frame m ρ, trivial, Cert.InProj.algebraic⟩

end Cert.Proof

end
